-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_and_untied [hPre_bounded_and_untied : Cert.Pre_bounded_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_and_untied [hPre_bounded_and_untied : Cert.Pre_bounded_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_and_untied [hKernelIdeal : Cert.KernelIdeal.Facts] [hPre_bounded_and_untied : Cert.Pre_bounded_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_and_untied [hReferenceIdeal : Cert.ReferenceIdeal.Facts] [hPre_bounded_and_untied : Cert.Pre_bounded_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded_and_untied [hKernelIdeal : Cert.KernelIdeal.Facts] [hReferenceIdeal : Cert.ReferenceIdeal.Facts] [hPre_bounded_and_untied : Cert.Pre_bounded_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded_and_untied : Cert.Pre_bounded_and_untied.Facts),
    quiescent_Kernel (hKernel := hKernel)
    ∧ quiescent_KernelIdeal (hKernelIdeal := hKernelIdeal)
    ∧ quiescent_KernelIdeal_pre_bounded_and_untied (hKernelIdeal := hKernelIdeal) (hPre_bounded_and_untied := hPre_bounded_and_untied)
    ∧ quiescent_ReferenceIdeal (hReferenceIdeal := hReferenceIdeal)
    ∧ quiescent_ReferenceIdeal_pre_bounded_and_untied (hReferenceIdeal := hReferenceIdeal) (hPre_bounded_and_untied := hPre_bounded_and_untied)
    ∧ preserves_Kernel_KernelIdeal
    ∧ algebraic_KernelIdeal_ReferenceIdeal_pre_bounded_and_untied (hKernelIdeal := hKernelIdeal) (hReferenceIdeal := hReferenceIdeal) (hPre_bounded_and_untied := hPre_bounded_and_untied)
-- ==== Pre_bounded_and_untied.lean ====
abbrev S1000000x100 : Shape := ⟨2, ![1000000, 100]⟩
abbrev S1000000 : Shape := ⟨1, ![1000000]⟩
abbrev S_ : Shape := ⟨0, ![]⟩
abbrev S1000000x1 : Shape := ⟨2, ![1000000, 1]⟩

class Facts : Prop where
  reducesTo_S1000000x100_S1000000_d1 : S1000000x100.ReducesTo [1] S1000000
  h_S_ : 0 < S_.numel
  bcast_S1000000_S1000000x1_0 : S1000000.BroadcastsInDim S1000000x1 (![0] : Fin 1 → Fin S1000000x1.rank)
  bcast_S1000000x1_S1000000x100_0_1 : S1000000x1.BroadcastsInDim S1000000x100 (![0, 1] : Fin 2 → Fin S1000000x100.rank)
  bcast_S_S1000000x100 : S_.BroadcastsInDim S1000000x100 (![] : Fin 0 → Fin S1000000x100.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S1000000x100 .f32) : IVec S1000000 32 :=
  let v0 : IVec S1000000x100 32 := iotaInDim S1000000x100 32 1
  let cst : FVec F S_ .f32 := constant S_ .f32 0xFF800000#32
  let c : IVec S_ 32 := constantI S_ 32 0#32
  let v1_0 : FVec F S1000000 .f32 := (fun x y u v j => (Host.argReduce reducer_argmax_f32_i32 x y u v reducesTo_S1000000x100_S1000000_d1 h_S_ j).1) arg0 v0 cst c
  let v1_1 : IVec S1000000 32 := (fun x y u v j => (Host.argReduce reducer_argmax_f32_i32 x y u v reducesTo_S1000000x100_S1000000_d1 h_S_ j).2) arg0 v0 cst c
  v1_1

def fn {F : FTy → Type} [FloatOps F] (main_arg0 : FVec F S1000000x100 .f32) (main_arg1 : IVec S1000000 32) : IVec S1000000x100 1 :=
  let main_cst : FVec F S_ .f32 := constant S_ .f32 0xFF800000#32
  let main_v0 : FVec F S1000000 .f32 := (fun x v => Host.reduce FloatOps.maximumf x v reducesTo_S1000000x100_S1000000_d1 h_S_) main_arg0 main_cst
  let main_v1 : FVec F S1000000x1 .f32 := broadcastInDim S1000000x1 ![0] bcast_S1000000_S1000000x1_0 main_v0
  let main_v2 : IVec S1000000x100 32 := iotaInDim S1000000x100 32 1
  let main_v3 : FVec F S1000000x100 .f32 := broadcastInDim S1000000x100 ![0, 1] bcast_S1000000x1_S1000000x100_0_1 main_v1
  let main_v4 : IVec S1000000x100 1 := cmpf .olt main_arg0 main_v3
  let main_cst_0 : FVec F S_ .f32 := constant S_ .f32 0x7F800000#32
  let main_v5 : FVec F S1000000x100 .f32 := broadcastInDim S1000000x100 ![] bcast_S_S1000000x100 main_cst_0
  let main_v6 : IVec S1000000x100 1 := cmpf .olt main_arg0 main_v5
  let main_v7 : IVec S1000000 32 := fn_argmax (F := F) main_arg0
  let main_v8 : IVec S1000000x1 32 := broadcastInDim S1000000x1 ![0] bcast_S1000000_S1000000x1_0 main_v7
  let main_v9 : IVec S1000000x100 32 := broadcastInDim S1000000x100 ![0, 1] bcast_S1000000x1_S1000000x100_0_1 main_v8
  let main_v10 : IVec S1000000x100 1 := cmpi .eq main_v2 main_v9
  let main_v11 : IVec S1000000x100 1 := ori main_v4 main_v10
  let main_v12 : IVec S1000000x100 1 := andi main_v6 main_v11
  main_v12
-- ==== Kernel.lean ====
abbrev S1000000x100 : Shape := ⟨2, ![1000000, 100]⟩
abbrev S1000000 : Shape := ⟨1, ![1000000]⟩
abbrev S125x8x1000 : Shape := ⟨3, ![125, 8, 1000]⟩
abbrev S20x3 : Shape := ⟨2, ![20, 3]⟩
abbrev S8000x100 : Shape := ⟨2, ![8000, 100]⟩
abbrev S1x8x1000 : Shape := ⟨3, ![1, 8, 1000]⟩
abbrev S20x8x1000 : Shape := ⟨3, ![20, 8, 1000]⟩
abbrev S8x1000 : Shape := ⟨2, ![8, 1000]⟩
abbrev S8x1000x100 : Shape := ⟨3, ![8, 1000, 100]⟩
abbrev S8x1000x1 : Shape := ⟨3, ![8, 1000, 1]⟩
abbrev S20 : Shape := ⟨1, ![20]⟩
abbrev S20x1 : Shape := ⟨2, ![20, 1]⟩
abbrev S1x1 : Shape := ⟨2, ![1, 1]⟩
abbrev S1 : Shape := ⟨1, ![1]⟩

abbrev nBuf : Space → Nat
  | .hbm => 6
  | .vmem => 12
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S125x8x1000, .i32⟩
  | .hbm, ⟨3, _⟩ => ⟨S20x3, .f32⟩
  | .hbm, ⟨4, _⟩ => ⟨S1x1, .f32⟩
  | .hbm, ⟨5, _⟩ => ⟨S1, .f32⟩
  | .local _ .vmem, ⟨0, _⟩ => ⟨S8000x100, .f32⟩
  | .local _ .vmem, ⟨1, _⟩ => ⟨S8000x100, .f32⟩
  | .local _ .vmem, ⟨2, _⟩ => ⟨S1x8x1000, .i32⟩
  | .local _ .vmem, ⟨3, _⟩ => ⟨S1x8x1000, .i32⟩
  | .local _ .vmem, ⟨4, _⟩ => ⟨S20x3, .f32⟩
  | .local _ .vmem, ⟨5, _⟩ => ⟨S20x8x1000, .f32⟩
  | .local _ .vmem, ⟨6, _⟩ => ⟨S20x8x1000, .f32⟩
  | .local _ .vmem, ⟨7, _⟩ => ⟨S20x8x1000, .f32⟩
  | .local _ .vmem, ⟨8, _⟩ => ⟨S8x1000, .f32⟩
  | .local _ .vmem, ⟨9, _⟩ => ⟨S8x1000, .f32⟩
  | .local _ .vmem, ⟨10, _⟩ => ⟨S20x3, .f32⟩
  | .local _ .vmem, ⟨11, _⟩ => ⟨S1x1, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc1_stg0_0 : Ref sig .tc := ⟨.vmem, 10, rfl⟩
abbrev cc1_stg1_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v528 : BitVec 1 := Scalar.cmpi .eq arg0 c124_i32
  let v529 : BitVec 32 := Scalar.extui v528
  let c0_i32_378 : BitVec 32 := 0#32
  let v530 : BitVec 1 := Scalar.cmpi .ne v529 c0_i32_378
  v530

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S20x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1000000x100 : Shape := ⟨2, ![1000000, 100]⟩
abbrev S1000000 : Shape := ⟨1, ![1000000]⟩
abbrev S20 : Shape := ⟨1, ![20]⟩
abbrev S_ : Shape := ⟨0, ![]⟩
abbrev S1000000x1 : Shape := ⟨2, ![1000000, 1]⟩
abbrev S1x1000000 : Shape := ⟨2, ![1, 1000000]⟩
abbrev S20x1 : Shape := ⟨2, ![20, 1]⟩
abbrev S20x1000000 : Shape := ⟨2, ![20, 1000000]⟩
abbrev S1 : Shape := ⟨1, ![1]⟩

abbrev nBuf : Space → Nat
  | .hbm => 74
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S20, .f32⟩
  | .hbm, ⟨3, _⟩ => ⟨S20, .f32⟩
  | .hbm, ⟨4, _⟩ => ⟨S_, .f32⟩
  | .hbm, ⟨5, _⟩ => ⟨S1000000, .f32⟩
  | .hbm, ⟨6, _⟩ => ⟨S_, .f32⟩
  | .hbm, ⟨7, _⟩ => ⟨S1000000, .f32⟩
  | .hbm, ⟨8, _⟩ => ⟨S1000000, .f32⟩
  | .hbm, ⟨9, _⟩ => ⟨S1000000x1, .f32⟩
  | .hbm, ⟨10, _⟩ => ⟨S1000000x100, .f32⟩
  | .hbm, ⟨11, _⟩ => ⟨S1000000x100, .f32⟩
  | .hbm, ⟨12, _⟩ => ⟨S1000000x100, .f32⟩
  | .hbm, ⟨13, _⟩ => ⟨S_, .f32⟩
  | .hbm, ⟨14, _⟩ => ⟨S1000000, .f32⟩
  | .hbm, ⟨15, _⟩ => ⟨S1000000x1, .f32⟩
  | .hbm, ⟨16, _⟩ => ⟨S1000000x100, .f32⟩
  | .hbm, ⟨17, _⟩ => ⟨S1000000x100, .f32⟩
  | .hbm, ⟨18, _⟩ => ⟨S_, .f32⟩
  | .hbm, ⟨19, _⟩ => ⟨S1000000, .f32⟩
  | .hbm, ⟨20, _⟩ => ⟨S1000000x100, .i32⟩
  | .hbm, ⟨21, _⟩ => ⟨S_, .f32⟩
  | .hbm, ⟨22, _⟩ => ⟨S_, .i32⟩
  | .hbm, ⟨23, _⟩ => ⟨S1000000, .f32⟩
  | .hbm, ⟨24, _⟩ => ⟨S1000000, .i32⟩
  | .hbm, ⟨25, _⟩ => ⟨S1000000, .i1⟩
  | .hbm, ⟨26, _⟩ => ⟨S1000000, .f32⟩
  | .hbm, ⟨27, _⟩ => ⟨S1x1000000, .f32⟩
  | .hbm, ⟨28, _⟩ => ⟨S20x1, .f32⟩
  | .hbm, ⟨29, _⟩ => ⟨S20x1000000, .f32⟩
  | .hbm, ⟨30, _⟩ => ⟨S20x1000000, .f32⟩
  | .hbm, ⟨31, _⟩ => ⟨S20x1000000, .i1⟩
  | .hbm, ⟨32, _⟩ => ⟨S1x1000000, .f32⟩
  | .hbm, ⟨33, _⟩ => ⟨S20x1, .f32⟩
  | .hbm, ⟨34, _⟩ => ⟨S20x1000000, .f32⟩
  | .hbm, ⟨35, _⟩ => ⟨S20x1000000, .f32⟩
  | .hbm, ⟨36, _⟩ => ⟨S20x1000000, .i1⟩
  | .hbm, ⟨37, _⟩ => ⟨S20x1000000, .i1⟩
  | .hbm, ⟨38, _⟩ => ⟨S20x1000000, .f32⟩
  | .hbm, ⟨39, _⟩ => ⟨S_, .f32⟩
  | .hbm, ⟨40, _⟩ => ⟨S20, .f32⟩
  | .hbm, ⟨41, _⟩ => ⟨S_, .f32⟩
  | .hbm, ⟨42, _⟩ => ⟨S20, .f32⟩
  | .hbm, ⟨43, _⟩ => ⟨S20, .f32⟩
  | .hbm, ⟨44, _⟩ => ⟨S_, .f32⟩
  | .hbm, ⟨45, _⟩ => ⟨S20, .f32⟩
  | .hbm, ⟨46, _⟩ => ⟨S_, .f32⟩
  | .hbm, ⟨47, _⟩ => ⟨S20, .f32⟩
  | .hbm, ⟨48, _⟩ => ⟨S20, .f32⟩
  | .hbm, ⟨49, _⟩ => ⟨S1x1000000, .f32⟩
  | .hbm, ⟨50, _⟩ => ⟨S20x1000000, .f32⟩
  | .hbm, ⟨51, _⟩ => ⟨S20x1000000, .f32⟩
  | .hbm, ⟨52, _⟩ => ⟨S_, .f32⟩
  | .hbm, ⟨53, _⟩ => ⟨S20, .f32⟩
  | .hbm, ⟨54, _⟩ => ⟨S20, .f32⟩
  | .hbm, ⟨55, _⟩ => ⟨S1x1000000, .f32⟩
  | .hbm, ⟨56, _⟩ => ⟨S20x1000000, .f32⟩
  | .hbm, ⟨57, _⟩ => ⟨S20x1000000, .f32⟩
  | .hbm, ⟨58, _⟩ => ⟨S_, .f32⟩
  | .hbm, ⟨59, _⟩ => ⟨S20, .f32⟩
  | .hbm, ⟨60, _⟩ => ⟨S20, .f32⟩
  | .hbm, ⟨61, _⟩ => ⟨S_, .f32⟩
  | .hbm, ⟨62, _⟩ => ⟨S20, .f32⟩
  | .hbm, ⟨63, _⟩ => ⟨S20, .i1⟩
  | .hbm, ⟨64, _⟩ => ⟨S20, .f32⟩
  | .hbm, ⟨65, _⟩ => ⟨S20, .f32⟩
  | .hbm, ⟨66, _⟩ => ⟨S20, .f32⟩
  | .hbm, ⟨67, _⟩ => ⟨S_, .f32⟩
  | .hbm, ⟨68, _⟩ => ⟨S_, .f32⟩
  | .hbm, ⟨69, _⟩ => ⟨S20, .f32⟩
  | .hbm, ⟨70, _⟩ => ⟨S20, .f32⟩
  | .hbm, ⟨71, _⟩ => ⟨S_, .f32⟩
  | .hbm, ⟨72, _⟩ => ⟨S_, .f32⟩
  | .hbm, ⟨73, _⟩ => ⟨S1, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_call1_v0 : Ref sig .tc := ⟨.hbm, 68, rfl⟩
abbrev main_call1_v1 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Proof.Same.lean ====
/-
  The kernel's program and its idealized program are one program: no rewrite was asked for. So what holds of every run of
  the one, for any float values, holds of every run of the other.
-/
module

public import proofs.«01_k».proof.Kernel
public import proofs.«01_k».proof.KernelIdeal
public import proofs.«01_k».proof.Proof.Gen.Kernel
public import proofs.«01_k».proof.Proof.Gen.KernelIdeal

@[expose] public section

set_option maxRecDepth 100000
set_option maxHeartbeats 4000000

noncomputable section

namespace Cert.Same

open Idealize.ShloMosaic
open Idealize.ShloMosaic.TcCoe Idealize.SL Idealize.SL.Sem

variable {F : FTy → Type} [FloatOps F]

/-- The two programs' kernel bodies agree; -/
theorem defs₀_eq : @Cert.Kernel.defs₀ F _ _ = @Cert.KernelIdeal.defs₀ F _ _ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l x
  match l, x with
  | ⟨0, _⟩, (t, s) => with_unfolding_all rfl
  | ⟨1, _⟩, (t, s) => with_unfolding_all rfl

/-- so do their pipelines. -/
theorem pcfgs_eq : @Cert.Kernel.pcfgs F _ = @Cert.KernelIdeal.pcfgs F _ := by
  with_unfolding_all exact funext fun l => match l with
  | ⟨0, _⟩ => rfl
  | ⟨1, _⟩ => rfl

section
open Cert.Kernel

/-- Every run of @main over the pipelines `P` and the bodies `D` keeps the arguments and ends with every semaphore at zero. -/
def Runs (P : Fin 2 → Pipeline.PCfg sig Λ₀ (Elt F)) (D : Defs nD τ sig (Elt F) Λ₀) : Prop :=
  ∀ (a0 : (Pipeline.Sig Λ₀ (Fin 2) fun p => (P p).Adm).Args (Pipeline.entry 0)) (a1 : (Pipeline.Sig Λ₀ (Fin 2) fun p => (P p).Adm).Args (Pipeline.entry 1))
    (m : (ℓ : Loc nD τ sig) → Buf (Elt F) ℓ) (g : Dev nD → PrngReg),
    θ_run (Pipeline.defs P D) (onTc (τ := τ) (fun _ => do
      hlo rfl (StableHlo.reshape main_arg1 main_v0 (rfl : (.i32 : EltTy) = .i32) Facts₀.shapeCasts_S1000000_S125x8x1000) (fun _ => .ret ⟨⟩)
      Prog.lift (.customCall (Pipeline.entry 0) a0)
      Prog.lift (.customCall (Pipeline.entry 1) a1)
      hlo rfl (StableHlo.reshape main_v2 main_v3 (rfl : (.f32 : EltTy) = .f32) Facts₀.shapeCasts_S1x1_S1) (fun _ => .ret ⟨⟩)))
      ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

end

/-- The idealized program's runs are of that form; -/
theorem of_ideal (h : ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) :
    Runs (F := F) Cert.KernelIdeal.pcfgs Cert.KernelIdeal.defs₀ := by
  with_unfolding_all exact fun a0 a1 => h

/-- and the kernel's are. -/
theorem to_kernel (h : Runs (F := F) Cert.Kernel.pcfgs Cert.Kernel.defs₀) :
    ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := h () ()

/-- So the idealized program's frame is the kernel's. -/
theorem frame (h : ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) :
    ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  refine to_kernel ?_
  rw [pcfgs_eq, defs₀_eq]
  exact of_ideal h

end Cert.Same

end
-- ==== Proof.Step.lean ====
/-
  One point of the first kernel, as functions: the confidence and the hit of every row of the point's block come from
  the generated payloads; this module states how the three running tables (rows counted, hits, confidences; one
  8×1000 sheet per bin) move, and that the kernel's stores into one table, taken together, are that one function.
-/
module

public import proofs.«01_k».proof.Proof.Gen.KernelIdeal.Skeleton
public import Idealize.ShloMosaic.Lib.Tactic
public import Idealize.ShloMosaic.Lib.Pipeline.Kit
public import Idealize.ShloMosaic.Lib.Pipeline.Value

@[expose] public section

set_option maxRecDepth 16384

noncomputable section

namespace Cert.KernelIdeal.Body

open Cert.KernelIdeal Cert.KernelIdeal.Gen
open Idealize.ShloMosaic

variable {F : FTy → Type} [FloatOps F]

/-- The bit pattern of the bound between bin `k - 1` and bin `k`, for `k` from 1 to 19: `k / 20` rounded to f32. -/
def bound : ℕ → BitVec 32
  | 1 => 0x3D4CCCCD#32 | 2 => 0x3DCCCCCD#32 | 3 => 0x3E19999A#32 | 4 => 0x3E4CCCCD#32 | 5 => 0x3E800000#32
  | 6 => 0x3E99999A#32 | 7 => 0x3EB33333#32 | 8 => 0x3ECCCCCD#32 | 9 => 0x3EE66666#32 | 10 => 0x3F000000#32
  | 11 => 0x3F0CCCCD#32 | 12 => 0x3F19999A#32 | 13 => 0x3F266666#32 | 14 => 0x3F333333#32 | 15 => 0x3F400000#32
  | 16 => 0x3F4CCCCD#32 | 17 => 0x3F59999A#32 | 18 => 0x3F666666#32 | 19 => 0x3F733333#32
  | _ => 0#32

/-- Whether a confidence lies above bound `k`, as 0 or 1: always above bound 0, never above bound 20. -/
def gate : ℕ → FVec F S8x1000 .f32 → FVec F S8x1000 .f32
  | 0, _ => broadcast S8x1000 (Scalar.ofBits .f32 0x3F800000#32)
  | 20, _ => broadcast S8x1000 (Scalar.ofBits .f32 0x00000000#32)
  | k, C => sitofp .f32 (extui 32 (cmpf .ogt C (broadcast S8x1000 (Scalar.ofBits .f32 (bound k)))) natLt_1_32)

/-- Whether a confidence lies in bin `k`: above its lower bound less above its upper bound. -/
def inBin (k : ℕ) (C : FVec F S8x1000 .f32) : FVec F S8x1000 .f32 := subf (gate k C) (gate (k + 1) C)

/-- The place of a table's entry within its sheet. -/
abbrev sheet (y : S20x8x1000.Idx) : S8x1000.Idx := fun a : Fin 2 => y a.succ

/-- The counts after a point: each bin's sheet gains the bin's indicator of the point's confidences `C`. -/
def cntStep (C : FVec F S8x1000 .f32) (A : FVec F S20x8x1000 .f32) : FVec F S20x8x1000 .f32 := fun y =>
  addf (fun _ => A y) (inBin (y 0).val C) (sheet y)

/-- A weighted sum after a point: each bin's sheet gains the bin's indicator times the weights `W`. -/
def sumStep (C W : FVec F S8x1000 .f32) (A : FVec F S20x8x1000 .f32) : FVec F S20x8x1000 .f32 := fun y =>
  addf (fun _ => A y) (mulf (inBin (y 0).val C) W) (sheet y)

/-- The rectangle of bin `k`'s sheet. -/
abbrev rowRect (k : ℕ) (h : ∀ a, (![k, 0, 0] : Fin 3 → Nat) a + S1x8x1000.size a ≤ S20x8x1000.size a) : Rect S20x8x1000 :=
  Rect.unit (s := S20x8x1000) ![k, 0, 0] S1x8x1000.size h

theorem rowRect_bin {k : ℕ} {h} (x : (rowRect k h).shape.Idx) : ((rowRect k h).emb x 0).val = k := by
  have hx : (x 0).val < 1 := (x 0).isLt
  show k + 1 * (x 0).val = k
  omega

theorem rowRect_sheet {k : ℕ} {h} (x : (rowRect k h).shape.Idx) : sheet ((rowRect k h).emb x) = fun a : Fin 2 => x a.succ := by
  funext a
  apply Fin.ext
  fin_cases a
  · show 0 + 1 * (x 1).val = _; simp
  · show 0 + 1 * (x 2).val = _; simp

/-- A sheet read, added to and cast back holds, at each of its places, the old entry plus the addend there. -/
theorem row_apply {k : ℕ} {h} (A : FVec F S20x8x1000 .f32) (D : FVec F S8x1000 .f32)
    (h1 : S1x8x1000.ShapeCasts S8x1000) (h2 : S8x1000.ShapeCasts S1x8x1000) (x : (rowRect k h).shape.Idx) :
    shapeCast S1x8x1000 (addf (shapeCast S8x1000 (View.ld (e' := .f32) (Val := Elt F) A (rowRect k h)) h1) D) h2 x
      = addf (fun _ => A ((rowRect k h).emb x)) D (sheet ((rowRect k h).emb x)) := by
  rw [rowRect_sheet]
  refine (shapeCast_addUnit_apply ![8, 1000] _ h2 x).trans ?_
  show FloatOps.addf _ _ = FloatOps.addf _ _
  congr 1
  refine (shapeCast_dropUnit_apply ![8, 1000] _ h1 _).trans ?_
  show A _ = A _
  congr 2
  funext a
  have hx : (x 0).val < 1 := (x 0).isLt
  refine Fin.cases ?_ (fun a => rfl) a
  apply Fin.ext
  show 0 = (x 0).val
  omega

/-- The store of bin `k`'s sheet of counts is the new counts there. -/
theorem cnt_row {k : ℕ} {h} (C : FVec F S8x1000 .f32) (A : FVec F S20x8x1000 .f32)
    (h1 : S1x8x1000.ShapeCasts S8x1000) (h2 : S8x1000.ShapeCasts S1x8x1000) (x : (rowRect k h).shape.Idx) :
    shapeCast S1x8x1000 (addf (shapeCast S8x1000 (View.ld (e' := .f32) (Val := Elt F) A (rowRect k h)) h1) (inBin k C)) h2 x
      = cntStep C A ((rowRect k h).emb x) := by
  rw [row_apply, cntStep, rowRect_bin]

/-- The store of bin `k`'s sheet of a weighted sum is the new sum there. -/
theorem sum_row {k : ℕ} {h} (C W : FVec F S8x1000 .f32) (A : FVec F S20x8x1000 .f32)
    (h1 : S1x8x1000.ShapeCasts S8x1000) (h2 : S8x1000.ShapeCasts S1x8x1000) (x : (rowRect k h).shape.Idx) :
    shapeCast S1x8x1000 (addf (shapeCast S8x1000 (View.ld (e' := .f32) (Val := Elt F) A (rowRect k h)) h1) (mulf (inBin k C) W)) h2 x
      = sumStep C W A ((rowRect k h).emb x) := by
  rw [row_apply, sumStep, rowRect_bin]

/-- An entry of a table lies in the sheet its first coordinate names. -/
theorem mem_rowRect {k : ℕ} {h} {y : S20x8x1000.Idx} (hy : (y 0).val = k) : y ∈ (rowRect k h).set := by
  refine Rect.mem_set_unit.mpr fun a => ?_
  fin_cases a
  · exact ⟨hy.ge, by show (y 0).val < k + 1; omega⟩
  · exact ⟨Nat.zero_le _, by show (y 1).val < 0 + 8; have h1 : (y 1).val < 8 := (y 1).isLt; omega⟩
  · exact ⟨Nat.zero_le _, by show (y 2).val < 0 + 1000; have h2 : (y 2).val < 1000 := (y 2).isLt; omega⟩

theorem rowRect_inb (k : Fin 20) (a : Fin 3) : (![19 - k.val, 0, 0] : Fin 3 → Nat) a + S1x8x1000.size a ≤ S20x8x1000.size a := by
  fin_cases a
  · show 19 - k.val + 1 ≤ 20; omega
  · exact Nat.le_refl 8
  · exact Nat.le_refl 1000

/-- The sheets' rectangles, the last bin's first. -/
def sheets : List (Rect S20x8x1000) := List.ofFn fun k : Fin 20 => rowRect (19 - k.val) (rowRect_inb k)

/-- Stores into all sheets of a table cover it. -/
theorem sheets_cover {L : List (View.Piece (Elt F) S20x8x1000 .f32)} (hL : L.map (·.1) = sheets) (y : S20x8x1000.Idx) :
    ∃ p ∈ L, y ∈ p.1.set := by
  have hy : (y 0).val < 20 := (y 0).isLt
  have hm : rowRect (19 - (19 - (y 0).val)) (rowRect_inb ⟨19 - (y 0).val, by omega⟩) ∈ L.map (·.1) := by
    rw [hL]; exact List.mem_ofFn.mpr ⟨⟨19 - (y 0).val, by omega⟩, rfl⟩
  obtain ⟨p, hp, e⟩ := List.mem_map.mp hm
  exact ⟨p, hp, e ▸ mem_rowRect (by omega)⟩

/-- Stores into all sheets of a table, each the part of one table `G` in its sheet, leave `G`, -/
theorem read_sheets {κ : Kind} {sp : Space} {sg : RefSig} (v : View sg κ sp S20x8x1000 .f32) (f : v.ty.Contents (Elt F))
    {L : List (View.Piece (Elt F) S20x8x1000 .f32)} {G : FVec F S20x8x1000 .f32} (hL : L.map (·.1) = sheets)
    (hG : ∀ p ∈ L, ∀ x, p.2 x = G (p.1.emb x)) : v.read (Elt F) (v.writes (Elt F) f L) = G := by
  rw [View.read_writes_eq_canon v f L (sheets_cover hL)]
  exact funext fun y => View.canon_apply_of_pieces G L hG y (sheets_cover hL y)

/-- and a load of the whole table after them reads `G`. -/
theorem readCov_sheets {κ : Kind} {sp : Space} {sg : RefSig} (v : View sg κ sp S20x8x1000 .f32)
    {L : List (View.Piece (Elt F) S20x8x1000 .f32)} {G : FVec F S20x8x1000 .f32} (hL : L.map (·.1) = sheets)
    (hG : ∀ p ∈ L, ∀ x, p.2 x = G (p.1.emb x)) (inb : ∀ a, (![0, 0, 0] : Fin 3 → Nat) a + S20x8x1000.size a ≤ S20x8x1000.size a) :
    v.readCov L (Rect.unit (s := S20x8x1000) ![0, 0, 0] S20x8x1000.size inb).toLoadRect = G := by
  show View.ld (v.read (Elt F) (v.writes (Elt F) v.junk L)) (Rect.unit (s := S20x8x1000) ![0, 0, 0] S20x8x1000.size inb) = G
  rw [read_sheets v _ hL hG]
  exact View.ld_unit_zero (by funext a; fin_cases a <;> rfl) _ _

end Cert.KernelIdeal.Body

end
-- ==== Proof.Body.lean ====
/-
  The two kernels' runs on symbolic buffers. The first kernel, run on a block of logits and labels and on the three
  running tables, leaves each table moved one step (or started from zero at the first point) and, at the last point,
  the tables' totals in the output; the second leaves the value of its input in its output.
-/
module

public import proofs.«01_k».proof.Proof.Step
public import Idealize.ShloMosaic.Lib.VecWindow

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user's algebra: the pipeline library's. -/
abbrev UU : Type := UR sig nD τ

local notation "𝕄" => MT nD τ sig Unit (Elt F) ℕ UU ℕ

/-- The contents of a memref's buffer on core `c`; -/
abbrev Bf (c : Dev nD) {sp : Space} {S : Shape} {e : EltTy} (M : Memref sig .tc sp S e) : Type := Buf (Elt F) (M.view.loc (c : Thread nD τ))
/-- and that buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The first point's test, as the kernel computes it. -/
def isFirst (i : grid0.Coords) : BitVec 1 :=
  Scalar.cmpi .ne (Scalar.extui (Scalar.cmpi .eq (BitVec.ofNat 32 (i 0).val) 0#32) : BitVec 32) 0#32

/-- A table as the point finds it: zero at the first point, else as left. -/
def start (i : grid0.Coords) (A : FVec F S20x8x1000 .f32) : FVec F S20x8x1000 .f32 :=
  if isFirst i = 1#1 then broadcast S20x8x1000 (Scalar.ofBits .f32 0x00000000#32) else A

/-- A table read after the first point's reset, if it is the first point. -/
theorem read_start {κ : Kind} {sp : Space} {sg : RefSig} (i : grid0.Coords) (v : View sg κ sp S20x8x1000 .f32) (f : v.ty.Contents (Elt F))
    {Z : FVec F S20x8x1000 .f32} (hZ : Z = broadcast S20x8x1000 (Scalar.ofBits .f32 0x00000000#32)) :
    v.read (Elt F) (if h : isFirst i = 1#1 then
        v.writes (Elt F) f [⟨Rect.unit (s := S20x8x1000) ![0, 0, 0] S20x8x1000.size inb_S20x8x1000_S20x8x1000_0_0_0, Z⟩]
      else f) = start i (v.read (Elt F) f) := by
  unfold start
  split
  · exact (View.read_writes_full _ _ _ _ _).trans hZ
  · rfl

section run

set_option maxHeartbeats 4000000 in
/-- THE FIRST KERNEL'S RUN at a point. -/
theorem run0 (c : Dev nD) (i : grid0.Coords)
    (M1 : Memref sig .tc .vmem S8000x100 .f32) (h1 : M1.IsWhole) (M2 : Memref sig .tc .vmem S1x8x1000 .i32) (h2 : M2.IsWhole)
    (M3 : Memref sig .tc .vmem S20x3 .f32) (h3 : M3.IsWhole) (M4 : Memref sig .tc .vmem S20x8x1000 .f32) (h4 : M4.IsWhole)
    (M5 : Memref sig .tc .vmem S20x8x1000 .f32) (h5 : M5.IsWhole) (M6 : Memref sig .tc .vmem S20x8x1000 .f32) (h6 : M6.IsWhole)
    (M7 : Memref sig .tc .vmem S8x1000 .f32) (h7 : M7.IsWhole) (M8 : Memref sig .tc .vmem S8x1000 .f32) (h8 : M8.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8)
    (X : FVec F S8000x100 .f32) (hX : M1.view.read (Elt F) f1 = X) (Lb : IVec S1x8x1000 32) (hL : M2.view.read (Elt F) f2 = Lb)
    (A4 A5 A6 : FVec F S20x8x1000 .f32)
    (hA4 : start i (M4.view.read (Elt F) f4) = A4) (hA5 : start i (M5.view.read (Elt F) f5) = A5) (hA6 : start i (M6.view.read (Elt F) f6) = A6)
    (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
      ∗ (iprop(pt c M1 f1 ∗ pt c M2 f2
          ∗ (∃ f, ⌜M3.view.read (Elt F) f = if k0_cond2 i = 1#1
              then k0_pay4 (cntStep (k0_pay10 X) A4) (sumStep (k0_pay10 X) (k0_pay11 X Lb) A5) (sumStep (k0_pay10 X) (k0_pay10 X) A6)
              else M3.view.read (Elt F) f3⌝ ∗ pt c M3 f)
          ∗ (∃ f, ⌜M4.view.read (Elt F) f = cntStep (k0_pay10 X) A4⌝ ∗ pt c M4 f)
          ∗ (∃ f, ⌜M5.view.read (Elt F) f = sumStep (k0_pay10 X) (k0_pay11 X Lb) A5⌝ ∗ pt c M5 f)
          ∗ (∃ f, ⌜M6.view.read (Elt F) f = sumStep (k0_pay10 X) (k0_pay10 X) A6⌝ ∗ pt c M6 f)
          ∗ (∃ f, pt c M7 f) ∗ (∃ f, pt c M8 f)) -∗ Q ⟨⟩))
    ⊢ wp frame (wpE (defs₀ (F := F)) Variants.none c none) Set.univ
        (cc0__ece_stage1 i M1 h1 M2 h2 M3 h3 M4 h4 M5 h5 M6 h6 M7 h7 M8 h8) Q := by
  iintro ⟨H1, H2, H3, H4, H5, H6, H7, H8, Hk⟩
  sl_exec_parts
  have hv : run0.sl.v2 i = isFirst i := rfl
  have e1 : View.readAt (Elt F) M1.view (Rect.unit (s := S8000x100) ![0, 0] S8000x100.size inb_S8000x100_S8000x100_0_0).toLoadRect f1 = X := by
    rw [View.readAt_eq_ld, hX]; exact View.ld_unit_zero (by funext a; fin_cases a <;> rfl) _ _
  have e2 : View.readAt (Elt F) M2.view (Rect.unit (s := S1x8x1000) ![0, 0, 0] S1x8x1000.size inb_S1x8x1000_S1x8x1000_0_0_0).toLoadRect f2 = Lb := by
    rw [View.readAt_eq_ld, hL]; exact View.ld_unit_zero (by funext a; fin_cases a <;> rfl) _ _
  have eC : M7.view.readCov [(⟨Rect.unit (s := S8x1000) ![0, 0] ![8, 1000] inb_S8x1000_S8x1000_0_0, k0_pay10 X⟩ : View.Piece (Elt F) S8x1000 .f32)]
      (Rect.unit (s := S8x1000) ![0, 0] ![8, 1000] inb_S8x1000_S8x1000_0_0).toLoadRect = k0_pay10 X := View.readCov_full _ _ _ _ _
  have eW : M8.view.readCov [(⟨Rect.unit (s := S8x1000) ![0, 0] ![8, 1000] inb_S8x1000_S8x1000_0_0, k0_pay11 X Lb⟩ : View.Piece (Elt F) S8x1000 .f32)]
      (Rect.unit (s := S8x1000) ![0, 0] ![8, 1000] inb_S8x1000_S8x1000_0_0).toLoadRect = k0_pay11 X Lb := View.readCov_full _ _ _ _ _
  have eA4 : M4.view.read (Elt F) (if h : Scalar.cmpi .ne (Scalar.extui (Scalar.cmpi .eq (BitVec.ofNat 32 (i 0).val) 0#32) : BitVec 32) 0#32 = 1#1 then
        M4.view.writes (Elt F) f4 [⟨Rect.unit (s := S20x8x1000) ![0, 0, 0] ![20, 8, 1000] inb_S20x8x1000_S20x8x1000_0_0_0, k0_pay5⟩]
      else f4) = A4 := hA4 ▸ read_start i M4.view f4 (shapeCast_self _ _)
  have eA5 : M5.view.read (Elt F) (if h : Scalar.cmpi .ne (Scalar.extui (Scalar.cmpi .eq (BitVec.ofNat 32 (i 0).val) 0#32) : BitVec 32) 0#32 = 1#1 then
        M5.view.writes (Elt F) f5 [⟨Rect.unit (s := S20x8x1000) ![0, 0, 0] ![20, 8, 1000] inb_S20x8x1000_S20x8x1000_0_0_0, k0_pay6⟩]
      else f5) = A5 := hA5 ▸ read_start i M5.view f5 (shapeCast_self _ _)
  have eA6 : M6.view.read (Elt F) (if h : Scalar.cmpi .ne (Scalar.extui (Scalar.cmpi .eq (BitVec.ofNat 32 (i 0).val) 0#32) : BitVec 32) 0#32 = 1#1 then
        M6.view.writes (Elt F) f6 [⟨Rect.unit (s := S20x8x1000) ![0, 0, 0] ![20, 8, 1000] inb_S20x8x1000_S20x8x1000_0_0_0, k0_pay7⟩]
      else f6) = A6 := hA6 ▸ read_start i M6.view f6 (shapeCast_self _ _)
  have rows4 : ∀ p ∈ run0.sl.H4_20 c i M1 M4 M7 f1 f4, ∀ x, p.2 x = cntStep (k0_pay10 X) A4 (p.1.emb x) := by
    sl_unfold_words
    simp only [e1, eC, View.readAt_eq_ld, eA4, List.forall_mem_cons]
    refine ⟨?_, ?_, ?_, ?_, ?_, ?_, ?_, ?_, ?_, ?_, ?_, ?_, ?_, ?_, ?_, ?_, ?_, ?_, ?_, ?_, fun p h => absurd h (List.not_mem_nil)⟩ <;>
      exact fun x => cnt_row (k0_pay10 X) A4 _ _ x
  have rows5 : ∀ p ∈ run0.sl.H5_20 c i M1 M2 M5 M7 M8 f1 f2 f5, ∀ x, p.2 x = sumStep (k0_pay10 X) (k0_pay11 X Lb) A5 (p.1.emb x) := by
    sl_unfold_words
    simp only [e1, e2, eC, eW, View.readAt_eq_ld, eA5, List.forall_mem_cons]
    refine ⟨?_, ?_, ?_, ?_, ?_, ?_, ?_, ?_, ?_, ?_, ?_, ?_, ?_, ?_, ?_, ?_, ?_, ?_, ?_, ?_, fun p h => absurd h (List.not_mem_nil)⟩ <;>
      exact fun x => sum_row (k0_pay10 X) (k0_pay11 X Lb) A5 _ _ x
  have rows6 : ∀ p ∈ run0.sl.H6_20 c i M1 M6 M7 f1 f6, ∀ x, p.2 x = sumStep (k0_pay10 X) (k0_pay10 X) A6 (p.1.emb x) := by
    sl_unfold_words
    simp only [e1, eC, View.readAt_eq_ld, eA6, List.forall_mem_cons]
    refine ⟨?_, ?_, ?_, ?_, ?_, ?_, ?_, ?_, ?_, ?_, ?_, ?_, ?_, ?_, ?_, ?_, ?_, ?_, ?_, ?_, fun p h => absurd h (List.not_mem_nil)⟩ <;>
      exact fun x => sum_row (k0_pay10 X) (k0_pay10 X) A6 _ _ x
  have m4 : (run0.sl.H4_20 (F := F) c i M1 M4 M7 f1 f4).map (·.1) = sheets := rfl
  have m5 : (run0.sl.H5_20 (F := F) c i M1 M2 M5 M7 M8 f1 f2 f5).map (·.1) = sheets := rfl
  have m6 : (run0.sl.H6_20 (F := F) c i M1 M6 M7 f1 f6).map (·.1) = sheets := rfl
  sl_step
  iapply Hk
  isplitl [H1]; · iexact H1
  isplitl [H2]; · iexact H2
  isplitl [H3]
  · iexists _; isplitr; swap; (· iexact H3)
    ipureintro
    split
    · refine (View.read_writes_full _ _ _ _ _).trans ?_
      rw [show run0.sl.v531 c i M1 M4 M7 f1 f4 = _ from readCov_sheets M4.view m4 rows4 _,
        show run0.sl.v534 c i M1 M2 M5 M7 M8 f1 f2 f5 = _ from readCov_sheets M5.view m5 rows5 _,
        show run0.sl.v537 c i M1 M6 M7 f1 f6 = _ from readCov_sheets M6.view m6 rows6 _]
    · rfl
  isplitl [H4]
  · iexists _; isplitr; swap; (· iexact H4)
    ipureintro; exact read_sheets M4.view _ m4 rows4
  isplitl [H5]
  · iexists _; isplitr; swap; (· iexact H5)
    ipureintro; exact read_sheets M5.view _ m5 rows5
  isplitl [H6]
  · iexists _; isplitr; swap; (· iexact H6)
    ipureintro; exact read_sheets M6.view _ m6 rows6
  isplitl [H7]; · iexists _; iexact H7
  iexists _; iexact H8

/-- THE SECOND KERNEL'S RUN: its output is the value of its input. -/
theorem run1 (c : Dev nD) (M1 : Memref sig .tc .vmem S20x3 .f32) (h1 : M1.IsWhole) (M2 : Memref sig .tc .vmem S1x1 .f32) (h2 : M2.IsWhole)
    (f1 : Bf (F := F) c M1) (f2 : Bf (F := F) c M2) (X : FVec F S20x3 .f32) (hX : M1.view.read (Elt F) f1 = X) (Q : PUnit → sProp 𝕄) :
    iprop(pt c M1 f1 ∗ pt c M2 f2
      ∗ (iprop(pt c M1 f1 ∗ (∃ f, ⌜M2.view.read (Elt F) f = k1_pay1 X⌝ ∗ pt c M2 f)) -∗ Q ⟨⟩))
    ⊢ wp frame (wpE (defs₀ (F := F)) Variants.none c none) Set.univ (cc1__ece_stage2 M1 h1 M2 h2) Q := by
  iintro ⟨H1, H2, Hk⟩
  sl_exec_parts
  have e1 : View.readAt (Elt F) M1.view (Rect.unit (s := S20x3) ![0, 0] S20x3.size inb_S20x3_S20x3_0_0).toLoadRect f1 = X := by
    rw [View.readAt_eq_ld, hX]; exact View.ld_unit_zero (by funext a; fin_cases a <;> rfl) _ _
  sl_step
  iapply Hk
  isplitl [H1]; · iexact H1
  iexists _; isplitr; swap; (· iexact H2)
  ipureintro
  sl_unfold_words
  refine (View.read_writes_full _ _ _ _ _).trans ?_
  rw [e1]

end run

end Cert.KernelIdeal.Body

end
-- ==== Proof.Run.lean ====
/-
  The kernel's whole run, for any float values: the two pipelines' proof data (what the three tables hold between points,
  what each pipeline leaves in its result), the launch, and the theorem that every execution ends with the arguments as
  launched, every semaphore back at zero and the result at the second kernel's value of the first kernel's totals.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionsLoop
public import Idealize.ShloMosaic.Lib.Pipeline.RegionArrays

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ UU ℕ

/-- The pipeline library's algebra is the certificate's whole algebra. -/
abbrev EP : Emb (URounds (GSem nD τ sig) Unit) 𝕄 := emb₁

variable (m : (ℓ : Loc nD τ sig) → Buf (Elt F) ℓ)

/-! ## What the tables hold -/

/-- The logits' block at a point; -/
def xblk (c : Dev nD) (t : Fin cfg0.N) : FVec F S8000x100 .f32 :=
  ((cfg0.win 0).blk t).view.read (Elt F) (V1 m c main_arg0)
/-- the labels' block. -/
def lblk (c : Dev nD) (t : Fin cfg0.N) : IVec S1x8x1000 32 :=
  ((cfg0.win 1).blk t).view.read (Elt F) (V1 m c main_v0)

/-- The confidences of a point's rows; -/
def confs (c : Dev nD) (t : Fin cfg0.N) : FVec F S8x1000 .f32 := k0_pay10 (xblk m c t)
/-- and their hits. -/
def hits (c : Dev nD) (t : Fin cfg0.N) : FVec F S8x1000 .f32 := k0_pay11 (xblk m c t) (lblk m c t)

/-- A table after `n` points, each moving it by `step`. -/
def tab (step : Fin cfg0.N → FVec F S20x8x1000 .f32 → FVec F S20x8x1000 .f32) : ℕ → FVec F S20x8x1000 .f32
  | 0 => broadcast S20x8x1000 (Scalar.ofBits .f32 0x00000000#32)
  | n + 1 => if h : n < cfg0.N then step ⟨n, h⟩ (tab step n) else tab step n

theorem tab_succ (step : Fin cfg0.N → FVec F S20x8x1000 .f32 → FVec F S20x8x1000 .f32) (t : Fin cfg0.N) :
    tab step (t.val + 1) = step t (tab step t.val) := by rw [tab, dif_pos t.isLt]

/-- The counts, -/
def cnts (c : Dev nD) : ℕ → FVec F S20x8x1000 .f32 := tab fun t A => cntStep (confs m c t) A
/-- the sums of hits -/
def accs (c : Dev nD) : ℕ → FVec F S20x8x1000 .f32 := tab fun t A => sumStep (confs m c t) (hits m c t) A
/-- and the sums of confidences. -/
def cfss (c : Dev nD) : ℕ → FVec F S20x8x1000 .f32 := tab fun t A => sumStep (confs m c t) (confs m c t) A

/-- What the first kernel leaves in its output: the tables' totals. -/
def totals (c : Dev nD) : FVec F S20x3 .f32 := k0_pay4 (cnts m c 125) (accs m c 125) (cfss m c 125)

theorem isFirst_iff : ∀ t : Fin cfg0.N, isFirst (cfg0.grid.coords t) = 1#1 ↔ t.val = 0 := by decide +kernel
theorem isLast_iff : ∀ t : Fin cfg0.N, k0_cond2 (cfg0.grid.coords t) = 1#1 ↔ t.val = 124 := by decide +kernel

/-- A table found at a point, given that it holds the points' before it unless this is the first. -/
theorem start_eq (step : Fin cfg0.N → FVec F S20x8x1000 .f32 → FVec F S20x8x1000 .f32) (t : Fin cfg0.N) (A : FVec F S20x8x1000 .f32)
    (h : t.val ≠ 0 → A = tab step t.val) : start (cfg0.grid.coords t) A = tab step t.val := by
  unfold start
  by_cases h0 : t.val = 0
  · rw [if_pos ((isFirst_iff t).mpr h0), h0]; rfl
  · rw [if_neg (fun e => h0 ((isFirst_iff t).mp e)), h h0]

/-! ## The first pipeline's proof data -/

/-- A table's buffer between points: its contents are known but before the first point. -/
def holds (c : Dev nD) (M : Memref sig .tc .vmem S20x8x1000 .f32) (T : ℕ → FVec F S20x8x1000 .f32) (n : ℕ) : sProp 𝕄 :=
  iprop(∃ f, ⌜n ≠ 0 → M.view.read (Elt F) f = T n⌝ ∗ pt c M f)

/-- The invariant before point `n`: the three tables, and the other scoped buffers at something. -/
def Φ0 (c : Dev nD) (n : ℕ) : sProp 𝕄 :=
  iprop(holds c (Memref.whole cc0_scratch0) (cnts m c) n ∗ holds c (Memref.whole cc0_scratch1) (accs m c) n
    ∗ holds c (Memref.whole cc0_scratch2) (cfss m c) n
    ∗ (∃ f, pt c (Memref.whole cc0_scratch3) f) ∗ (∃ f, pt c (Memref.whole cc0_scratch4) f)
    ∗ (∃ f, pt c (Memref.whole cc1_stg0_0) f) ∗ (∃ f, pt c (Memref.whole cc1_stg1_0) f))

/-- The first pipeline's proof data on core `c`. -/
def dat0 (c : Dev nD) : Dat τ (Elt F) Unit ℕ UU ℕ cfg0 c where
  A w := V1 m c (Pipeline.arrRef spec0 w)
  after w t := match w with | ⟨0, _⟩ => xblk m c t | ⟨1, _⟩ => lblk m c t | ⟨2, _⟩ => totals m c
  Φ t := Φ0 m c t.val
  q _ := fullShare
  owed _ := 0

theorem A0_eq (c : Dev nD) (w : Fin cfg0.W) : (dat0 m c).A w = V1 m c (Pipeline.arrRef spec0 w) := by
  dsimp only [dat0]

theorem before0_0 (c : Dev nD) (t : Fin cfg0.N) (d) : (dat0 m c).before 0 t d = xblk m c t := by
  rw [Dat.before_fetched _ _ _ (fetch0_0 t)]; rfl
theorem before0_1 (c : Dev nD) (t : Fin cfg0.N) (d) : (dat0 m c).before 1 t d = lblk m c t := by
  rw [Dat.before_fetched _ _ _ (fetch0_1 t)]; rfl

theorem idle0_2 (t : Fin cfg0.N) : cfg0.idle 2 (cfg0.grid.coords t) = !(k0_cond2 (cfg0.grid.coords t) == 1#1) := rfl

omit [FloatOps F] in
/-- Owning a whole buffer at contents is its points-to at a buffer read so. -/
theorem owns_of_whole (c : Dev nD) {s : Shape} {e : EltTy} (M : Memref sig .tc .vmem s e) (hM : M.IsWhole) (X : s.Idx → Elt F e) :
    (owns c.tc M fullShare X : sProp 𝕄) = iprop(∃ f, ⌜M.view.read (Elt F) f = X⌝ ∗ pt c M f) := by
  unfold owns pt; rw [hM.set_eq_univ]

/-- At the last point the first pipeline leaves the totals. -/
theorem after0_2 (c : Dev nD) (t : Fin cfg0.N) (h : t.val = 124) :
    (dat0 m c).after 2 t = k0_pay4 (cntStep (confs m c t) (cnts m c t.val)) (sumStep (confs m c t) (hits m c t) (accs m c t.val))
      (sumStep (confs m c t) (confs m c t) (cfss m c t.val)) := by
  have e1 : cnts m c 125 = _ := (congrArg (cnts m c) (by omega : 125 = t.val + 1)).trans (tab_succ _ t)
  have e2 : accs m c 125 = _ := (congrArg (accs m c) (by omega : 125 = t.val + 1)).trans (tab_succ _ t)
  have e3 : cfss m c 125 = _ := (congrArg (cfss m c) (by omega : 125 = t.val + 1)).trans (tab_succ _ t)
  rw [show (dat0 m c).after 2 t = totals m c from rfl, totals, e1, e2, e3]; rfl

/-- The library's obligation on the first pipeline's body. -/
theorem body0 (c : Dev nD) : BodyObligation (dat0 m c) (defs₀ (F := F)) Variants.none () Set.univ := fun t => by
  rw [bigSep_W0, bigSep_W0]
  rw [show (dat0 m c).Φ t.castSucc = Φ0 m c t.val from rfl, show (dat0 m c).Φ t.succ = Φ0 m c (t.val + 1) from rfl]
  simp only [fun X => owns_of_whole c (stage0_0 (cfg0.slots t 0)) (hstage0_0 _) X, fun X => owns_of_whole c (stage0_1 (cfg0.slots t 1)) (hstage0_1 _) X,
    fun X => owns_of_whole c (stage0_2 (cfg0.slots t 2)) (hstage0_2 _) X]
  unfold Φ0 holds Dat.owesAt Pipeline.owesWithin
  rw [show (dat0 m c).owed t.castSucc = 0 from rfl, show (dat0 m c).owed t.succ = 0 from rfl]
  iintro ⟨⟨⟨%f4, %h4, H4⟩, ⟨%f5, %h5, H5⟩, ⟨%f6, %h6, H6⟩, ⟨%f7, H7⟩, ⟨%f8, H8⟩, HA, HB⟩, ⟨%W, %hW, HO⟩, ⟨%d0, %f0, %hf0, H0⟩, ⟨%d1, %f1, %hf1, H1⟩, ⟨%d2, %f2, %hf2, H2⟩⟩
  rw [before0_0] at hf0
  rw [before0_1] at hf1
  have e4 := start_eq _ t _ h4
  have e5 := start_eq _ t _ h5
  have e6 := start_eq _ t _ h6
  iapply (run0 c (cfg0.grid.coords t) (stage0_0 (cfg0.slots t 0)) (hstage0_0 _) (stage0_1 (cfg0.slots t 1)) (hstage0_1 _)
    (stage0_2 (cfg0.slots t 2)) (hstage0_2 _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    f0 f1 f2 f4 f5 f6 f7 f8 (xblk m c t) hf0 (lblk m c t) hf1 _ _ _ e4 e5 e6)
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [H8]; · iexact H8
  iintro ⟨H0, H1, ⟨%g2, %k2, H2⟩, ⟨%g4, %k4, H4⟩, ⟨%g5, %k5, H5⟩, ⟨%g6, %k6, H6⟩, H7, H8⟩
  isplitl [H4 H5 H6 H7 H8 HA HB]
  · isplitl [H4]
    · iexists g4; isplitr; · ipureintro; exact fun _ => k4.trans (tab_succ _ t).symm
      iexact H4
    isplitl [H5]
    · iexists g5; isplitr; · ipureintro; exact fun _ => k5.trans (tab_succ _ t).symm
      iexact H5
    isplitl [H6]
    · iexists g6; isplitr; · ipureintro; exact fun _ => k6.trans (tab_succ _ t).symm
      iexact H6
    isplitl [H7]; · iexact H7
    isplitl [H8]; · iexact H8
    isplitl [HA] <;> iassumption
  isplitl [HO]
  · iexists W; isplitr; · ipureintro; exact fun _ _ => Or.inl trivial
    iexact HO
  isplitl [H0]
  · iexists f0; isplitr; · ipureintro; exact hf0
    iexact H0
  isplitl [H1]
  · iexists f1; isplitr; · ipureintro; exact hf1
    iexact H1
  by_cases hl : t.val = 124
  · have hc := (isLast_iff t).mpr hl
    rw [if_pos hc] at k2
    rw [show idle0 2 (grid0.coords t) = false from by rw [← show cfg0.idle 2 (cfg0.grid.coords t) = idle0 2 (grid0.coords t) from rfl, idle0_2, hc]; rfl]
    dsimp only
    iexists g2; isplitr; swap; (· iexact H2)
    ipureintro
    exact k2.trans (after0_2 m c t hl).symm
  · have hc : ¬ k0_cond2 (cfg0.grid.coords t) = 1#1 := fun e => hl ((isLast_iff t).mp e)
    rw [if_neg hc] at k2
    rw [show idle0 2 (grid0.coords t) = true from by
        rw [← show cfg0.idle 2 (cfg0.grid.coords t) = idle0 2 (grid0.coords t) from rfl, idle0_2, beq_false_of_ne hc]; rfl,
      show (win0 2).flush t = false from Bool.eq_false_iff.mpr fun e => hl (by have := (flush0_2 t).mp e; have := t.isLt; have : cfg0.N = 125 := N_0; omega)]
    dsimp only
    iexists d2, g2; isplitr; swap; (· iexact H2)
    ipureintro
    exact k2.trans hf2

/-! ## The second pipeline's proof data -/

/-- The first kernel's output array after it; -/
def res1 (c : Dev nD) : Buf (Elt F) ((c.tc : Thread nD τ).loc main_v1) := (dat0 m c).arrAt 2 cfg0.N

/-- the buffers then. -/
def W2 (c : Dev nD) : Valuation τ sig (Elt F) := Function.update (V1 m c) main_v1 (res1 m c)

/-- The second kernel's operand as fetched. -/
def sblk (c : Dev nD) (t : Fin cfg1.N) : FVec F S20x3 .f32 := ((cfg1.win 0).blk t).view.read (Elt F) (W2 m c main_v1)

/-- The second pipeline's proof data on core `c`. -/
def dat1 (c : Dev nD) : Dat τ (Elt F) Unit ℕ UU ℕ cfg1 c where
  A w := W2 m c (Pipeline.arrRef spec1 w)
  after w t := match w with | ⟨0, _⟩ => sblk m c t | ⟨1, _⟩ => k1_pay1 (sblk m c t)
  Φ _ := Pipeline.scopedRest spec1 c
  q _ := fullShare
  owed _ := 0

theorem A1_eq (c : Dev nD) (w : Fin cfg1.W) : (dat1 m c).A w = W2 m c (Pipeline.arrRef spec1 w) := by
  dsimp only [dat1]

theorem before1_0 (c : Dev nD) (t : Fin cfg1.N) (d) : (dat1 m c).before 0 t d = sblk m c t := by
  rw [Dat.before_fetched _ _ _ (fetch1_0 t)]; rfl

/-- The library's obligation on the second pipeline's body. -/
theorem body1 (c : Dev nD) : BodyObligation (dat1 m c) (defs₀ (F := F)) Variants.none () Set.univ := fun t => by
  rw [bigSep_W1, bigSep_W1]
  rw [show (dat1 m c).Φ t.castSucc = Pipeline.scopedRest spec1 c from rfl, show (dat1 m c).Φ t.succ = Pipeline.scopedRest spec1 c from rfl]
  simp only [fun X => owns_of_whole c (stage1_0 0) (hstage1_0 _) X, fun X => owns_of_whole c (stage1_1 0) (hstage1_1 _) X]
  unfold Dat.owesAt Pipeline.owesWithin
  rw [show (dat1 m c).owed t.castSucc = 0 from rfl, show (dat1 m c).owed t.succ = 0 from rfl]
  iintro ⟨HR, ⟨%W, %hW, HO⟩, ⟨%d0, %f0, %hf0, H0⟩, ⟨%d1, %f1, %hf1, H1⟩⟩
  rw [before1_0] at hf0
  iapply (run1 c (stage1_0 0) (hstage1_0 _) (stage1_1 0) (hstage1_1 _) f0 f1 (sblk m c t) hf0)
  isplitl [H0]; · iexact H0
  isplitl [H1]; · iexact H1
  iintro ⟨H0, ⟨%g1, %k1, H1⟩⟩
  isplitl [HR]; · iexact HR
  isplitl [HO]
  · iexists W; isplitr; · ipureintro; exact fun _ _ => Or.inl trivial
    iexact HO
  isplitl [H0]
  · iexists f0; isplitr; · ipureintro; exact hf0
    iexact H0
  iexists g1; isplitr; · ipureintro; exact k1
  iexact H1

/-- The second kernel's output array after it; -/
def res2 (c : Dev nD) : Buf (Elt F) ((c.tc : Thread nD τ).loc main_v2) := (dat1 m c).arrAt 1 cfg1.N

/-- the buffers then. -/
def W3 (c : Dev nD) : Valuation τ sig (Elt F) := Function.update (W2 m c) main_v2 (res2 m c)

/-! ## The regions -/

/-- The two pipelines' proof data. -/
def dats (p : Fin 2) (c : Dev nD) : Dat τ (Elt F) Unit ℕ UU ℕ (cfgs p) c :=
  match p with
  | ⟨0, _⟩ => dat0 m c
  | ⟨1, _⟩ => dat1 m c

abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

set_option backward.isDefEq.respectTransparency.types false in
/-- A pipeline's region between two valuations of the unscoped buffers: its proof data start at the first's arrays, end at the
    second's, the valuations agree elsewhere, and its invariant is made from the scoped buffers and gives them back. -/
def region (p : Fin 2) (kit : Pipeline.LaunchFacts (nD := nD) (τ := τ) cfgs p) (V V' : Dev nD → Valuation τ sig (Elt F))
    (hq : ∀ c w, (dats m p c).share w = fullShare) (h0 : ∀ c t, (dats m p c).owed t = 0) (hr : ∀ c, (dats m p c).recorded 0 = Set.univ)
    (hbody : ∀ c, BodyObligation (dats m p c) (defs₀ (F := F)) Variants.none () Set.univ)
    (hA : ∀ c w, (dats m p c).arrAt w 0 = V c (Pipeline.arrRef (cfgs p).spec w))
    (hF : ∀ c w, (dats m p c).arrAt w (cfgs p).N = V' c (Pipeline.arrRef (cfgs p).spec w))
    (hrest : ∀ c (b : Ref sig .tc), b ∉ Finset.univ.image (Pipeline.arrRef (cfgs p).spec) → V' c b = V c b)
    (hin : ∀ c, Pipeline.scopedRest (cfgs p).spec c ⊢ (dats m p c).Φ 0)
    (hout : ∀ c, (dats m p c).Φ (Fin.last (cfgs p).N) ⊢ Pipeline.scopedRest (cfgs p).spec c) :
    RegionSeg (pcfgs (F := F)) adm (dats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X _ := iprop(emp)
  Y _ := iprop(emp)
  Z c := Pipeline.unscopedRest (cfgs p).spec c fun b => V c b
  hentry c := by
    rw [← Pipeline.unscopedBufs_held c (V c), Pipeline.ownSems0_none, Pipeline.prefHeld_of_none _ rfl]
    iintro ⟨⟨Hub, HO⟩, -, -⟩
    ihave H := (Pipeline.arrays_of_unscopedBufs (pcfgs (F := F)) adm (dats m) kit.win kit.arr_whole c (hq c) (fun b => V c b) (hA c)) $$ Hub
    icases H with ⟨Ha, Hr⟩
    imodintro
    isplitl [Ha]; · iexact Ha
    isplitr; · iempintro
    isplitl [HO]
    · unfold Pipeline.Dat.owesAt Pipeline.owesWithin Pipeline.Dat.bound
      rw [show ((dats m p c).owed 0) = 0 from h0 c 0, hr c]
      icases HO with ⟨%W, HO⟩; iexists W; isplitr; · ipureintro; exact fun _ _ => Or.inl trivial
      iexact HO
    isplitr; · iempintro
    iexact Hr
  hin c := by
    iintro ⟨-, -, Hr⟩
    iapply (hin c) $$ Hr
  hout c := by
    rw [Pipeline.ownSems0_none]
    iintro H
    isplitr; · iempintro
    isplitr; · iempintro
    iapply (hout c) $$ H
  hexit c := by
    rw [← Pipeline.unscopedBufs_held c (V' c)]
    iintro ⟨Ha, HO, -, HZ⟩
    imodintro
    isplitr [HO]
    · iapply (Pipeline.unscopedBufs_of_arrays (pcfgs (F := F)) adm kit.win kit.arr_whole c (dats m) (hq c) (fun b => V c b) (fun b => V' c b) _ (hF c) (hrest c))
      isplitl [Ha] <;> iassumption
    · unfold Pipeline.Dat.owesAt Pipeline.owesWithin
      rw [show ((dats m p c).owed (Fin.last _)) = 0 from h0 c _]
      icases HO with ⟨%W, -, HO⟩; iexists W; iexact HO

/-! ### The two regions -/

theorem W2_v1 (c : Dev nD) : W2 m c main_v1 = res1 m c := Function.update_self ..
theorem W3_v2 (c : Dev nD) : W3 m c main_v2 = res2 m c := Function.update_self ..
/-- The first region moves its output only; -/
theorem W2_of (c : Dev nD) (b : Ref sig .tc) (h : b ≠ main_v1) : W2 m c b = V1 m c b :=
  Function.update_of_ne (StableHlo.devRef_ne_of_ne h) ..
/-- so does the second. -/
theorem W3_of (c : Dev nD) (b : Ref sig .tc) (h : b ≠ main_v2) : W3 m c b = W2 m c b :=
  Function.update_of_ne (StableHlo.devRef_ne_of_ne h) ..

theorem at0 (c : Dev nD) : ∀ w : Fin cfg0.W, (dat0 m c).arrAt w cfg0.N = W2 m c (Pipeline.arrRef spec0 w)
  | ⟨0, _⟩ => ((dat0 m c).arrAt_in 0 rfl _).trans (W2_of m c main_arg0 (by decide)).symm
  | ⟨1, _⟩ => ((dat0 m c).arrAt_in 1 rfl _).trans (W2_of m c main_v0 (by decide)).symm
  | ⟨2, _⟩ => (W2_v1 m c).symm

theorem at1 (c : Dev nD) : ∀ w : Fin cfg1.W, (dat1 m c).arrAt w cfg1.N = W3 m c (Pipeline.arrRef spec1 w)
  | ⟨0, _⟩ => ((dat1 m c).arrAt_in 0 rfl _).trans (W3_of m c main_v1 (by decide)).symm
  | ⟨1, _⟩ => (W3_v2 m c).symm

theorem in0 (c : Dev nD) : (Pipeline.scopedRest spec0 c : sProp 𝕄) ⊢ Φ0 m c 0 := by
  rw [scopedRest0_eq]; unfold Φ0 holds
  iintro ⟨⟨%f4, H4⟩, ⟨%f5, H5⟩, ⟨%f6, H6⟩, H7, H8, HA, HB⟩
  isplitl [H4]; · iexists f4; isplitr; (· ipureintro; exact fun h => absurd rfl h); iexact H4
  isplitl [H5]; · iexists f5; isplitr; (· ipureintro; exact fun h => absurd rfl h); iexact H5
  isplitl [H6]; · iexists f6; isplitr; (· ipureintro; exact fun h => absurd rfl h); iexact H6
  isplitl [H7]; · iexact H7
  isplitl [H8]; · iexact H8
  isplitl [HA] <;> iassumption

theorem out0 (c : Dev nD) (n : ℕ) : Φ0 m c n ⊢ (Pipeline.scopedRest spec0 c : sProp 𝕄) := by
  rw [scopedRest0_eq]; unfold Φ0 holds
  iintro ⟨⟨%f4, -, H4⟩, ⟨%f5, -, H5⟩, ⟨%f6, -, H6⟩, H7, H8, HA, HB⟩
  isplitl [H4]; · iexists f4; iexact H4
  isplitl [H5]; · iexists f5; iexact H5
  isplitl [H6]; · iexists f6; iexact H6
  isplitl [H7]; · iexact H7
  isplitl [H8]; · iexact H8
  isplitl [HA] <;> iassumption

/-- The first kernel's region; -/
def reg0 : RegionSeg (pcfgs (F := F)) adm (dats m) () defs₀ Variants.none L lv 0 :=
  region m 0 launch0 (V1 m) (W2 m) (fun c => (dat0 m c).share_full fun _ => rfl) (fun _ _ => rfl) (fun _ => rfl) (body0 m) (A0_eq m) (at0 m)
    (fun c b hb => W2_of m c b fun e => hb (e ▸ (by decide))) (in0 m) (fun c => out0 m c _)
/-- the second's. -/
def reg1 : RegionSeg (pcfgs (F := F)) adm (dats m) () defs₀ Variants.none L lv 1 :=
  region m 1 launch1 (W2 m) (W3 m) (fun c => (dat1 m c).share_full fun _ => rfl) (fun _ _ => rfl) (fun _ => rfl) (body1 m) (A1_eq m) (at1 m)
    (fun c b hb => W3_of m c b fun e => hb (e ▸ (by decide))) (fun _ => .rfl) (fun _ => .rfl)

/-! ## The run -/

/-- What the regions leave in their outputs. -/
def outs : Outs (F := F) := fun J r c => if J = 2 then W2 m c r else W3 m c r

theorem V2_eq (c : Dev nD) : V2 m (outs m) c = W2 m c := by
  unfold V2 outs; rw [if_pos rfl, W2_v1]; rfl
theorem V3_eq (c : Dev nD) : V3 m (outs m) c = W3 m c := by
  unfold V3; rw [V2_eq]; unfold outs; rw [if_neg (by decide), W3_v2]; rfl

theorem reg1_post (c : Dev nD) : (reg1 m).post c ⊢ iprop(StableHlo.held (c : Thread nD τ) (Pipeline.ucRefs τ sig) (V3 m (outs m) c) ∗ R c) := by
  rw [V3_eq]; exact .rfl
theorem reg0_post (c : Dev nD) : (reg0 m).post c ⊢ (reg1 m).pre c := .rfl

/-- The launch element. -/
def u₀ : UU := initOf (Pipeline.cells cfgs cellOf_inj) (Pipeline.launchToks cfgs cellOf_inj)

/-- The kernel's result: the second kernel's output at the result's shape. -/
def value (c : Dev nD) : Buf (Elt F) ((c.tc : Thread nD τ).loc main_v3) := V4 m (outs m) c main_v3

set_option backward.isDefEq.respectTransparency.types false in
/-- Every execution ends with the arguments as launched, the result at its value, every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_v3) = value m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (dats m) () cellOf_inj EP defs₀ Variants.none L lv m ρ main
    (segs m (outs m) Variants.none L lv (fun _ => R) () (dats m) (reg0 m) (reg1 m))
    (fun c Q => by
      rewrite [main_chain c, Pipeline.Seg.run_eq_chain,
        show (segs m (outs m) Variants.none L lv (fun _ => R) () (dats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := u₀)
    (hu₀ := by
      rw [show (ownU u₀ : sProp 𝕄) = BI.own (EP (initOf (Pipeline.cells cfgs cellOf_inj) (Pipeline.launchToks cfgs cellOf_inj))) from rfl]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, reg1_post m c, .rfl⟩)
    (hinit := ?_)
    (QY := fun c s => s.mem ((c.tc : Thread nD τ).loc main_v3) = value m c ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr; swap; (· iexact HSI)
    ipureintro
    have hr : ∀ b : Ref sig .tc, ¬ (Proc.devRef (τ := τ) .tc b).isScoped = true → s'.mem.mem ((c.tc : Thread nD τ).loc b) = V4 m (outs m) c b := fun b hb =>
      h (Proc.devRef .tc b) (Finset.mem_filter.mpr ⟨StableHlo.devRef_mem_tcRefs b, hb⟩)
    exact ⟨hr main_v3 (by decide), (hr main_arg0 (by decide)).trans (V4_main_arg0 m (outs m) c), (hr main_arg1 (by decide)).trans (V4_main_arg1 m (outs m) c)⟩

end Cert.KernelIdeal.Body

end
-- ==== Proof.Ref.lean ====
/-
  The reference's run, for any float values: its operations are one straight line, cut here at the rows' confidences and
  hits and at the bins' indicators, and each stretch is read as a function of what it starts from.
-/
module

public import proofs.«01_k».proof.ReferenceIdeal
public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The reference's functions -/

/-- Each row less its maximum. -/
def shifted (x : FVec F S1000000x100 .f32) : FVec F S1000000x100 .f32 :=
  subf x (broadcastInDim S1000000x100 ![0, 1] bcast_S1000000x1_S1000000x100_0_1 (broadcastInDim S1000000x1 ![0] bcast_S1000000_S1000000x1_0
    (maximumf (broadcastInDim S1000000 ![] bcast_S_S1000000 (constant S_ .f32 0xFF800000#32))
      (Host.reduce FloatOps.maximumf x (constant S_ .f32 0xFF800000#32) reducesTo_S1000000x100_S1000000_d1 h_S_))))

/-- The softmax of each row. -/
def soft (x : FVec F S1000000x100 .f32) : FVec F S1000000x100 .f32 :=
  Host.divf (Host.exp (shifted x)) (broadcastInDim S1000000x100 ![0, 1] bcast_S1000000x1_S1000000x100_0_1 (broadcastInDim S1000000x1 ![0] bcast_S1000000_S1000000x1_0
    (Host.reduceAdd (Host.exp (shifted x)) (constant S_ .f32 0x00000000#32) reducesTo_S1000000x100_S1000000_d1 h_S_)))

/-- The largest probability of each row. -/
def conf (P : FVec F S1000000x100 .f32) : FVec F S1000000 .f32 :=
  Host.reduce FloatOps.maximumf P (constant S_ .f32 0xFF800000#32) reducesTo_S1000000x100_S1000000_d1 h_S_

/-- Where each row's largest probability is. -/
def pred (P : FVec F S1000000x100 .f32) : IVec S1000000 32 := fun j =>
  (Host.argReduce reducer_argmax_f32_i32 P (iotaInDim S1000000x100 32 1) (constant S_ .f32 0xFF800000#32) (constantI S_ 32 0#32)
    reducesTo_S1000000x100_S1000000_d1 h_S_ j).2

/-- Whether it is at the row's label, as 0 or 1. -/
def hit (P : FVec F S1000000x100 .f32) (lab : IVec S1000000 32) : FVec F S1000000 .f32 := uitofp .f32 (cmpi .eq (pred P) lab)

/-- A value per row, given to every bin. -/
def perRow (v : FVec F S1000000 .f32) : FVec F S20x1000000 .f32 :=
  broadcastInDim S20x1000000 ![0, 1] bcast_S1x1000000_S20x1000000_0_1 (broadcastInDim S1x1000000 ![1] bcast_S1000000_S1x1000000_1 v)
/-- A value per bin, given to every row. -/
def perBin (v : FVec F S20 .f32) : FVec F S20x1000000 .f32 :=
  broadcastInDim S20x1000000 ![0, 1] bcast_S20x1_S20x1000000_0_1 (broadcastInDim S20x1 ![0] bcast_S20_S20x1_0 v)

/-- The bins' lower bounds -/
def lo : FVec F S20 .f32 := fun i => FloatOps.ofBits .f32 (lit0 (S20.rowMajor i))
/-- and upper bounds. -/
def hi : FVec F S20 .f32 := fun i => FloatOps.ofBits .f32 (lit1 (S20.rowMajor i))

/-- Whether each row's confidence lies in each bin, as 0 or 1. -/
def inBin (L U : FVec F S20 .f32) (C : FVec F S1000000 .f32) : FVec F S20x1000000 .f32 :=
  uitofp .f32 (andi (cmpf .ogt (perRow C) (perBin L)) (cmpf .ole (perRow C) (perBin U)))

/-- The sum over the rows. -/
def tot (M : FVec F S20x1000000 .f32) : FVec F S20 .f32 := Host.reduceAdd M (constant S_ .f32 0x00000000#32) reducesTo_S20x1000000_S20_d1 h_S_

/-- A number given to every bin. -/
def every (w : BitVec 32) : FVec F S20 .f32 := broadcastInDim S20 ![] bcast_S_S20 (constant S_ .f32 w)

/-- Each bin's contribution, from its count of rows and its sums of hits and of confidences. -/
def contribution (N A C : FVec F S20 .f32) : FVec F S20 .f32 :=
  select (cmpf .ogt N (every 0x00000000#32))
    (mulf (Host.absf (subf (Host.divf C (maximumf N (every 0x3F800000#32))) (Host.divf A (maximumf N (every 0x3F800000#32)))))
      (Host.divf N (every 0x49742400#32)))
    (every 0x00000000#32)

/-- The result: the contributions' sum. -/
def total (K : FVec F S20 .f32) : FVec F S1 .f32 :=
  broadcastInDim S1 ![] bcast_S_S1 (Host.reduceAdd K (constant S_ .f32 0x00000000#32) reducesTo_S20_S_d0 h_S_)

/-- The result from the rows' confidences and hits. -/
def result (C H : FVec F S1000000 .f32) : FVec F S1 .f32 :=
  total (contribution (tot (inBin lo hi C)) (tot (mulf (perRow H) (inBin lo hi C))) (tot (mulf (perRow C) (inBin lo hi C))))

/-! ## The operations -/

/-- The operations up to the rows' confidences and hits; -/
abbrev opsA : List (HloOp τ sig (Elt F)) :=
  [ nullary main_cst (fun i => FloatOps.ofBits .f32 (lit0 (S20.rowMajor i))),
    nullary main_cst_0 (fun i => FloatOps.ofBits .f32 (lit1 (S20.rowMajor i))),
    nullary main_cst_1 (constant S_ .f32 0xFF800000#32),
    binary main_arg0 main_cst_1 main_v0 (fun x v => Host.reduce FloatOps.maximumf x v reducesTo_S1000000x100_S1000000_d1 h_S_),
    nullary main_cst_2 (constant S_ .f32 0xFF800000#32),
    unary main_cst_2 main_v1 (broadcastInDim S1000000 ![] bcast_S_S1000000),
    binary main_v1 main_v0 main_v2 maximumf,
    unary main_v2 main_v3 (broadcastInDim S1000000x1 ![0] bcast_S1000000_S1000000x1_0),
    unary main_v3 main_v4 (broadcastInDim S1000000x100 ![0, 1] bcast_S1000000x1_S1000000x100_0_1),
    binary main_arg0 main_v4 main_v5 subf,
    unary main_v5 main_v6 Host.exp,
    nullary main_cst_3 (constant S_ .f32 0x00000000#32),
    binary main_v6 main_cst_3 main_v7 (fun x v => Host.reduceAdd x v reducesTo_S1000000x100_S1000000_d1 h_S_),
    unary main_v7 main_v8 (broadcastInDim S1000000x1 ![0] bcast_S1000000_S1000000x1_0),
    unary main_v8 main_v9 (broadcastInDim S1000000x100 ![0, 1] bcast_S1000000x1_S1000000x100_0_1),
    binary main_v6 main_v9 main_v10 Host.divf,
    nullary main_cst_4 (constant S_ .f32 0xFF800000#32),
    binary main_v10 main_cst_4 main_v11 (fun x v => Host.reduce FloatOps.maximumf x v reducesTo_S1000000x100_S1000000_d1 h_S_),
    nullary main_call0_v0 (iotaInDim S1000000x100 32 1),
    nullary main_call0_cst (constant S_ .f32 0xFF800000#32),
    nullary main_call0_c (constantI S_ 32 0#32),
    quaternary main_v10 main_call0_v0 main_call0_cst main_call0_c main_call0_v1_0 (fun x y u v j => (Host.argReduce reducer_argmax_f32_i32 x y u v reducesTo_S1000000x100_S1000000_d1 h_S_ j).1),
    quaternary main_v10 main_call0_v0 main_call0_cst main_call0_c main_v12 (fun x y u v j => (Host.argReduce reducer_argmax_f32_i32 x y u v reducesTo_S1000000x100_S1000000_d1 h_S_ j).2),
    binary main_v12 main_arg1 main_v13 (cmpi .eq),
    unary main_v13 main_v14 (uitofp .f32) ]

/-- from there to the bins' indicators; -/
abbrev opsB : List (HloOp τ sig (Elt F)) :=
  [ unary main_v11 main_v15 (broadcastInDim S1x1000000 ![1] bcast_S1000000_S1x1000000_1),
    unary main_cst main_v16 (broadcastInDim S20x1 ![0] bcast_S20_S20x1_0),
    unary main_v15 main_v17 (broadcastInDim S20x1000000 ![0, 1] bcast_S1x1000000_S20x1000000_0_1),
    unary main_v16 main_v18 (broadcastInDim S20x1000000 ![0, 1] bcast_S20x1_S20x1000000_0_1),
    binary main_v17 main_v18 main_v19 (cmpf .ogt),
    unary main_v11 main_v20 (broadcastInDim S1x1000000 ![1] bcast_S1000000_S1x1000000_1),
    unary main_cst_0 main_v21 (broadcastInDim S20x1 ![0] bcast_S20_S20x1_0),
    unary main_v20 main_v22 (broadcastInDim S20x1000000 ![0, 1] bcast_S1x1000000_S20x1000000_0_1),
    unary main_v21 main_v23 (broadcastInDim S20x1000000 ![0, 1] bcast_S20x1_S20x1000000_0_1),
    binary main_v22 main_v23 main_v24 (cmpf .ole),
    binary main_v19 main_v24 main_v25 andi,
    unary main_v25 main_v26 (uitofp .f32) ]

/-- from there to the result. -/
abbrev opsC : List (HloOp τ sig (Elt F)) :=
  [ nullary main_cst_5 (constant S_ .f32 0x00000000#32),
    binary main_v26 main_cst_5 main_v27 (fun x v => Host.reduceAdd x v reducesTo_S20x1000000_S20_d1 h_S_),
    nullary main_cst_6 (constant S_ .f32 0x49742400#32),
    unary main_cst_6 main_v28 (broadcastInDim S20 ![] bcast_S_S20),
    binary main_v27 main_v28 main_v29 Host.divf,
    nullary main_cst_7 (constant S_ .f32 0x00000000#32),
    binary main_v26 main_cst_7 main_v30 (fun x v => Host.reduceAdd x v reducesTo_S20x1000000_S20_d1 h_S_),
    nullary main_cst_8 (constant S_ .f32 0x3F800000#32),
    unary main_cst_8 main_v31 (broadcastInDim S20 ![] bcast_S_S20),
    binary main_v30 main_v31 main_v32 maximumf,
    unary main_v14 main_v33 (broadcastInDim S1x1000000 ![1] bcast_S1000000_S1x1000000_1),
    unary main_v33 main_v34 (broadcastInDim S20x1000000 ![0, 1] bcast_S1x1000000_S20x1000000_0_1),
    binary main_v34 main_v26 main_v35 mulf,
    nullary main_cst_9 (constant S_ .f32 0x00000000#32),
    binary main_v35 main_cst_9 main_v36 (fun x v => Host.reduceAdd x v reducesTo_S20x1000000_S20_d1 h_S_),
    binary main_v36 main_v32 main_v37 Host.divf,
    unary main_v11 main_v38 (broadcastInDim S1x1000000 ![1] bcast_S1000000_S1x1000000_1),
    unary main_v38 main_v39 (broadcastInDim S20x1000000 ![0, 1] bcast_S1x1000000_S20x1000000_0_1),
    binary main_v39 main_v26 main_v40 mulf,
    nullary main_cst_10 (constant S_ .f32 0x00000000#32),
    binary main_v40 main_cst_10 main_v41 (fun x v => Host.reduceAdd x v reducesTo_S20x1000000_S20_d1 h_S_),
    binary main_v41 main_v32 main_v42 Host.divf,
    nullary main_cst_11 (constant S_ .f32 0x00000000#32),
    unary main_cst_11 main_v43 (broadcastInDim S20 ![] bcast_S_S20),
    binary main_v30 main_v43 main_v44 (cmpf .ogt),
    binary main_v42 main_v37 main_v45 subf,
    unary main_v45 main_v46 Host.absf,
    binary main_v46 main_v29 main_v47 mulf,
    nullary main_cst_12 (constant S_ .f32 0x00000000#32),
    unary main_cst_12 main_call1_v0 id,
    unary main_call1_v0 main_call1_v1 (broadcastInDim S20 ![] bcast_S_S20),
    ternary main_v44 main_v47 main_call1_v1 main_v48 select,
    nullary main_cst_13 (constant S_ .f32 0x00000000#32),
    binary main_v48 main_cst_13 main_v49 (fun x v => Host.reduceAdd x v reducesTo_S20_S_d0 h_S_),
    unary main_v49 main_v50 (broadcastInDim S1 ![] bcast_S_S1) ]

/-- @main's operations, in order. -/
abbrev ops : List (HloOp τ sig (Elt F)) := opsA ++ (opsB ++ opsC)

/-- @main is that straight line. -/
theorem main_eq (c : Dev nD) : main (F := F) c = seq ops := rfl

theorem opsA_sub : (opsA : List (HloOp τ sig (Elt F))).Forall fun op => op.bufs ⊆ tcRefs τ sig :=
  ⟨nullary_bufs_sub .., nullary_bufs_sub .., nullary_bufs_sub .., binary_bufs_sub .., nullary_bufs_sub ..,
    unary_bufs_sub .., binary_bufs_sub .., unary_bufs_sub .., unary_bufs_sub .., binary_bufs_sub ..,
    unary_bufs_sub .., nullary_bufs_sub .., binary_bufs_sub .., unary_bufs_sub .., unary_bufs_sub ..,
    binary_bufs_sub .., nullary_bufs_sub .., binary_bufs_sub .., nullary_bufs_sub .., nullary_bufs_sub ..,
    nullary_bufs_sub .., quaternary_bufs_sub .., quaternary_bufs_sub .., binary_bufs_sub .., unary_bufs_sub ..⟩

theorem opsB_sub : (opsB : List (HloOp τ sig (Elt F))).Forall fun op => op.bufs ⊆ tcRefs τ sig :=
  ⟨unary_bufs_sub .., unary_bufs_sub .., unary_bufs_sub .., unary_bufs_sub .., binary_bufs_sub ..,
    unary_bufs_sub .., unary_bufs_sub .., unary_bufs_sub .., unary_bufs_sub .., binary_bufs_sub ..,
    binary_bufs_sub .., unary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., nullary_bufs_sub .., binary_bufs_sub ..,
    binary_bufs_sub .., unary_bufs_sub .., unary_bufs_sub .., binary_bufs_sub .., nullary_bufs_sub ..,
    binary_bufs_sub .., binary_bufs_sub .., nullary_bufs_sub .., unary_bufs_sub .., binary_bufs_sub ..,
    binary_bufs_sub .., unary_bufs_sub .., binary_bufs_sub .., nullary_bufs_sub .., unary_bufs_sub ..,
    unary_bufs_sub .., ternary_bufs_sub .., nullary_bufs_sub .., binary_bufs_sub .., unary_bufs_sub ..⟩

/-- Every operation touches TensorCore references only. -/
theorem ops_sub : (ops : List (HloOp τ sig (Elt F))).Forall fun op => op.bufs ⊆ tcRefs τ sig :=
  List.forall_append.mpr ⟨opsA_sub, List.forall_append.mpr ⟨opsB_sub, opsC_sub⟩⟩

/-- Running two stretches is running the first, then the second. -/
theorem after_app (l k : List (HloOp τ sig (Elt F))) (V : Valuation τ sig (Elt F)) : after (l ++ k) V = after k (after l V) := by
  induction l generalizing V with
  | nil => rfl
  | cons op l ih => exact ih _

section
variable (V : Valuation τ sig (Elt F))

theorem a_conf : after opsA V (main_v11 : DevRef τ sig) = conf (soft (V (main_arg0 : DevRef τ sig))) := by after_results; rfl
theorem a_hit : after opsA V (main_v14 : DevRef τ sig) = hit (soft (V (main_arg0 : DevRef τ sig))) (V (main_arg1 : DevRef τ sig)) := by after_results; rfl
theorem a_lo : after opsA V (main_cst : DevRef τ sig) = (lo : FVec F S20 .f32) := by after_results; rfl
theorem a_hi : after opsA V (main_cst_0 : DevRef τ sig) = (hi : FVec F S20 .f32) := by after_results; rfl
theorem a_arg0 : after opsA V (main_arg0 : DevRef τ sig) = V (main_arg0 : DevRef τ sig) := by after_results
theorem a_arg1 : after opsA V (main_arg1 : DevRef τ sig) = V (main_arg1 : DevRef τ sig) := by after_results

theorem b_bin : after opsB V (main_v26 : DevRef τ sig)
    = inBin (V (main_cst : DevRef τ sig)) (V (main_cst_0 : DevRef τ sig)) (V (main_v11 : DevRef τ sig)) := by after_results; rfl
theorem b_conf : after opsB V (main_v11 : DevRef τ sig) = V (main_v11 : DevRef τ sig) := by after_results
theorem b_hit : after opsB V (main_v14 : DevRef τ sig) = V (main_v14 : DevRef τ sig) := by after_results
theorem b_arg0 : after opsB V (main_arg0 : DevRef τ sig) = V (main_arg0 : DevRef τ sig) := by after_results
theorem b_arg1 : after opsB V (main_arg1 : DevRef τ sig) = V (main_arg1 : DevRef τ sig) := by after_results

theorem c_out : after opsC V (main_v50 : DevRef τ sig)
    = total (contribution (tot (V (main_v26 : DevRef τ sig))) (tot (mulf (perRow (V (main_v14 : DevRef τ sig))) (V (main_v26 : DevRef τ sig))))
        (tot (mulf (perRow (V (main_v11 : DevRef τ sig))) (V (main_v26 : DevRef τ sig))))) := by after_results; rfl
theorem c_arg0 : after opsC V (main_arg0 : DevRef τ sig) = V (main_arg0 : DevRef τ sig) := by after_results
theorem c_arg1 : after opsC V (main_arg1 : DevRef τ sig) = V (main_arg1 : DevRef τ sig) := by after_results

/-- The whole line's result; -/
theorem out_eq : after ops V (main_v50 : DevRef τ sig)
    = result (conf (soft (V (main_arg0 : DevRef τ sig)))) (hit (soft (V (main_arg0 : DevRef τ sig))) (V (main_arg1 : DevRef τ sig))) := by
  rw [after_app, after_app, c_out, b_bin, b_conf, b_hit, a_conf, a_hit, a_lo, a_hi]; rfl
/-- the arguments stay. -/
theorem arg0_eq : after ops V (main_arg0 : DevRef τ sig) = V (main_arg0 : DevRef τ sig) := by
  rw [after_app, after_app, c_arg0, b_arg0, a_arg0]
theorem arg1_eq : after ops V (main_arg1 : DevRef τ sig) = V (main_arg1 : DevRef τ sig) := by
  rw [after_app, after_app, c_arg1, b_arg1, a_arg1]

end

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every execution of the reference ends with its result at `result` of the rows' confidences and hits, the arguments as
    launched and every semaphore at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v50)
        = result (conf (soft (m ((c.tc : Thread nD τ).loc main_arg0)))) (hit (soft (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c main_v50).trans (out_eq _), (h c main_arg0).trans (arg0_eq _), (h c main_arg1).trans (arg1_eq _)⟩,
      Idealize.ShloMosaic.sem_eq_zero_of_no_sems (by decide) r.2⟩)
    (run_seq scopedRefs_eq scopedSems_eq defs main (fun _ => ops) main_eq (fun _ => ops_sub) m ρ)

end Cert.ReferenceIdeal.Run

end
-- ==== Proof.Row.lean ====
/-
  One row of logits over the extended reals, with no logit +∞ and one largest: the largest softmax probability, the
  quotient of the exponentials of the largest logit and of the whole row, and where they are attained.
-/
module

public import Idealize.ShloMosaic.PureOps.Ideal
public import Idealize.ShloMosaic.PureOps.Ideal.Laws
public import Mathlib.Data.EReal.Operations
public import Mathlib.Algebra.BigOperators.Fin

@[expose] public section

noncomputable section

namespace Cert.Row

open Idealize.ShloMosaic

/-- The largest of a row's numbers. -/
def peak (x : Fin 100 → EReal) : EReal := Finset.univ.sup x

/-- The largest logit's exponential over the sum of all exponentials. -/
def share (x : Fin 100 → EReal) : EReal := Ideal.div (Ideal.exp (peak x)) (∑ j, Ideal.exp (x j))

/-- The row's softmax, each logit first lowered by the largest. -/
def soft (x : Fin 100 → EReal) (j : Fin 100) : EReal :=
  Ideal.div (Ideal.exp (x j - peak x)) (∑ k, Ideal.exp (x k - peak x))

/-- The row's number in the lane a word names, and −∞ in every other lane. -/
def only (w : BitVec 32) (x : Fin 100 → EReal) (j : Fin 100) : EReal := if BitVec.ofNat 32 j = w then x j else ⊥

/-- A row whose one largest logit is in lane `p`, and below +∞. -/
def Peaked (x : Fin 100 → EReal) (p : Fin 100) : Prop := x p ≠ ⊤ ∧ ∀ j, j ≠ p → x j < x p

/-- A number that every other lies below is the largest. -/
theorem peak_eq {x : Fin 100 → EReal} {p : Fin 100} (h : ∀ j, j ≠ p → x j < x p) : peak x = x p := by
  refine le_antisymm (Finset.sup_le fun j _ => ?_) (Finset.le_sup (Finset.mem_univ p))
  by_cases hj : j = p
  · rw [hj]
  · exact (h j hj).le

/-- The largest number is some lane's. -/
theorem exists_peak (x : Fin 100 → EReal) : ∃ p, peak x = x p := by
  obtain ⟨p, -, hp⟩ := Finset.exists_mem_eq_sup (Finset.univ : Finset (Fin 100)) ⟨0, Finset.mem_univ _⟩ x
  exact ⟨p, hp⟩

/-- Some lane is not `p`. -/
theorem exists_ne (p : Fin 100) : ∃ j : Fin 100, j ≠ p := by
  by_cases h : p = 0
  · exact ⟨1, by rw [h]; decide⟩
  · exact ⟨0, fun e => h e.symm⟩

/-- The largest logit is a real number. -/
theorem Peaked.real {x : Fin 100 → EReal} {p : Fin 100} (h : Peaked x p) : ∃ M : ℝ, x p = M := by
  obtain ⟨j, hj⟩ := exists_ne p
  exact ⟨(x p).toReal, (EReal.coe_toReal h.1 (ne_bot_of_gt (h.2 j hj))).symm⟩

/-- The exponential of a logit below +∞ is a real number, not negative; lowering the logit by `M` divides it by `M`'s. -/
theorem exp_real (z : EReal) (hz : z ≠ ⊤) (M : ℝ) :
    ∃ r : ℝ, 0 ≤ r ∧ Ideal.exp z = r ∧ Ideal.exp (z - M) = ((r / Real.exp M : ℝ) : EReal) := by
  induction z using EReal.rec with
  | bot => exact ⟨0, le_rfl, rfl, by simp⟩
  | top => exact absurd rfl hz
  | coe a => exact ⟨Real.exp a, (Real.exp_pos a).le, rfl, by rw [← EReal.coe_sub, Ideal.exp_coe, Real.exp_sub]⟩

/-- Exponentials of logits below a real one are below its exponential. -/
theorem exp_lt {z : EReal} {M r : ℝ} (h : z < M) (hr : Ideal.exp z = r) : r < Real.exp M := by
  induction z using EReal.rec with
  | bot =>
    have e : (0 : ℝ) = r := EReal.coe_injective hr
    rw [← e]; exact Real.exp_pos M
  | top => exact absurd h (not_lt.2 le_top)
  | coe a =>
    have e : Real.exp a = r := EReal.coe_injective hr
    rw [← e]; exact Real.exp_lt_exp.2 (EReal.coe_lt_coe_iff.1 h)

/-- A sum of real numbers is real. -/
theorem sum_real (f : Fin 100 → ℝ) : ∑ j, (f j : EReal) = ((∑ j, f j : ℝ) : EReal) := by
  induction (Finset.univ : Finset (Fin 100)) using Finset.induction_on with
  | empty => simp
  | insert a s ha ih => rw [Finset.sum_insert ha, Finset.sum_insert ha, ih, EReal.coe_add]

/-- A quotient of real numbers by one that is not zero is real. -/
theorem div_real (a : ℝ) {b : ℝ} (hb : b ≠ 0) : Ideal.div (a : EReal) (b : EReal) = ((a / b : ℝ) : EReal) := by
  rw [Ideal.div_coe hb, ← EReal.coe_mul, mul_one_div]

/-- On a peaked row the softmax is largest in lane `p` alone, and there it is the share, a real number above 0 and at most 1. -/
theorem Peaked.soft {x : Fin 100 → EReal} {p : Fin 100} (h : Peaked x p) :
    ∃ c : ℝ, 0 < c ∧ c ≤ 1 ∧ share x = c ∧ soft x p = c ∧ ∀ j, j ≠ p → soft x j < soft x p := by
  obtain ⟨M, hM⟩ := h.real
  have hpk : peak x = M := (peak_eq h.2).trans hM
  have hlt : ∀ j, x j ≠ ⊤ := fun j => by
    by_cases hj : j = p
    · rw [hj]; exact h.1
    · exact ne_top_of_lt (h.2 j hj)
  choose e he0 he heM using fun j => exp_real (x j) (hlt j) M
  have hep : e p = Real.exp M := by
    have := he p
    rw [hM, Ideal.exp_coe] at this
    exact (EReal.coe_injective this).symm
  have hle : e p ≤ ∑ j, e j := Finset.single_le_sum (fun j _ => he0 j) (Finset.mem_univ p)
  have hpos : 0 < e p := by rw [hep]; exact Real.exp_pos M
  have hS : 0 < ∑ j, e j := hpos.trans_le hle
  have hE : Real.exp M ≠ 0 := (Real.exp_pos M).ne'
  have hshare : share x = ((e p / ∑ j, e j : ℝ) : EReal) := by
    unfold share
    rw [hpk, Ideal.exp_coe, ← hep, Finset.sum_congr rfl fun j _ => he j, sum_real, div_real _ hS.ne']
  have hsoft : ∀ j, Row.soft x j = ((e j / ∑ k, e k : ℝ) : EReal) := fun j => by
    unfold Row.soft
    rw [hpk, heM j, Finset.sum_congr rfl fun k _ => heM k, sum_real, ← Finset.sum_div,
      div_real _ (div_ne_zero hS.ne' hE), div_div_div_cancel_right₀ hE]
  refine ⟨e p / ∑ j, e j, div_pos hpos hS, (div_le_one hS).2 hle, hshare, hsoft p, fun j hj => ?_⟩
  rw [hsoft j, hsoft p, EReal.coe_lt_coe_iff]
  refine div_lt_div_of_pos_right ?_ hS
  rw [hep]
  exact exp_lt (by rw [← hM]; exact h.2 j hj) (he j)

/-- On a peaked row the largest logit is in the lane a word names when the word names lane `p`. -/
theorem Peaked.only {x : Fin 100 → EReal} {p : Fin 100} (h : Peaked x p) (w : BitVec 32) :
    peak (only w x) = peak x ↔ BitVec.ofNat 32 p = w := by
  obtain ⟨M, hM⟩ := h.real
  rw [peak_eq h.2]
  constructor
  · intro e
    by_contra hw
    have hlt : peak (Row.only w x) < x p := by
      refine (Finset.sup_lt_iff (by rw [hM]; exact EReal.bot_lt_coe M)).2 fun j _ => ?_
      unfold Row.only
      split
      · rename_i hj
        exact h.2 j fun e => hw (by rw [← e]; exact hj)
      · rw [hM]; exact EReal.bot_lt_coe M
    exact hlt.ne e
  · intro hw
    refine le_antisymm (Finset.sup_le fun j _ => ?_) ?_
    · unfold Row.only
      split
      · by_cases hj : j = p
        · rw [hj]
        · exact (h.2 j hj).le
      · exact bot_le
    · refine le_trans (le_of_eq ?_) (Finset.le_sup (f := Row.only w x) (Finset.mem_univ p))
      unfold Row.only; rw [if_pos hw]

/-- A row every lane of which lies below the largest number or is named by one word, and whose numbers are below +∞, is
peaked, in a lane the word names. -/
theorem peaked_of {x : Fin 100 → EReal} {w : BitVec 32} (ht : ∀ j, x j < ⊤)
    (h : ∀ j : Fin 100, x j < peak x ∨ BitVec.ofNat 32 j = w) : ∃ p, Peaked x p := by
  obtain ⟨p, hp⟩ := exists_peak x
  have named : ∀ j, x j = peak x → BitVec.ofNat 32 j = w := fun j hj => (h j).resolve_left hj.not_lt
  refine ⟨p, (ht p).ne, fun j hj => ?_⟩
  rw [← hp]
  refine (h j).resolve_right fun hw => hj (Fin.ext ?_)
  have e := congrArg BitVec.toNat (hw.trans (named p hp.symm).symm)
  have hj' := j.isLt
  have hp' := p.isLt
  rw [BitVec.toNat_ofNat, BitVec.toNat_ofNat] at e
  omega

end Cert.Row

end
-- ==== Proof.Pre.lean ====
/-
  The precondition row by row: no logit is +∞, and each row's largest logit is in one lane only.
-/
module

public import proofs.«01_k».proof.Pre_bounded_and_untied
public import proofs.«01_k».proof.Proof.Row
public import Idealize.ShloMosaic.Lib.ValueIdx
public import Idealize.ShloMosaic.Lib.Pointwise

@[expose] public section

noncomputable section

namespace Cert.Pre_bounded_and_untied

open Idealize.ShloMosaic
open Facts

variable [Facts]

/-- A number per row, given to every lane. -/
def perLane {α : Type} (v : S1000000.Idx → α) : S1000000x100.Idx → α :=
  broadcastInDim S1000000x100 ![0, 1] bcast_S1000000x1_S1000000x100_0_1 (broadcastInDim S1000000x1 ![0] bcast_S1000000_S1000000x1_0 v)
/-- The largest of each row. -/
def rowMax (x : FVec Ideal S1000000x100 .f32) : FVec Ideal S1000000 .f32 :=
  Host.reduce FloatOps.maximumf x (constant S_ .f32 0xFF800000#32) reducesTo_S1000000x100_S1000000_d1 h_S_
/-- +∞ everywhere. -/
def top : FVec Ideal S1000000x100 .f32 := broadcastInDim S1000000x100 ![] bcast_S_S1000000x100 (constant S_ .f32 0x7F800000#32)

theorem fn_eq (x : FVec Ideal S1000000x100 .f32) (l : IVec S1000000 32) : fn (F := Ideal) x l
    = andi (cmpf .olt x top) (ori (cmpf .olt x (perLane (rowMax x))) (cmpi .eq (iotaInDim S1000000x100 32 1) (perLane (fn_argmax x)))) := rfl

theorem holds_at {s : Shape} (x u v : FVec Ideal s .f32) (a b : IVec s 32) (i : s.Idx)
    (h : andi (cmpf .olt x u) (ori (cmpf .olt x v) (cmpi .eq a b)) i = 1#1) : x i < u i ∧ (x i < v i ∨ a i = b i) := by
  have h' : BitVec.ofBool (decide (x i < u i)) &&& (BitVec.ofBool (decide (x i < v i)) ||| BitVec.ofBool (a i == b i)) = 1#1 := h
  have key : ∀ p q r : Bool, BitVec.ofBool p &&& (BitVec.ofBool q ||| BitVec.ofBool r) = 1#1 → p = true ∧ (q = true ∨ r = true) := by decide
  have hk := key _ _ _ h'
  exact ⟨of_decide_eq_true hk.1, hk.2.imp of_decide_eq_true eq_of_beq⟩

theorem perLane_apply {α : Type} (v : S1000000.Idx → α) (r : Fin 1000000) (j : Fin 100) : perLane v (ix2 r j) = v (ix1 r) := by
  unfold perLane broadcastInDim
  exact congrArg v (eq_ix1 _)

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem top_apply (i : S1000000x100.Idx) : top i = ⊤ := by
  unfold top
  rw [ValueIdx.broadcastInDim_scalar_apply, ValueIdx.constant_apply, ofBits_top]

theorem rowMax_apply (x : FVec Ideal S1000000x100 .f32) (r : Fin 1000000) : rowMax x (ix1 r) = Row.peak fun j => x (ix2 r j) := by
  unfold rowMax
  rw [Host.reduce_eq_fold]
  refine (Shape.ReducesTo.fold_fiber_r2_a1 _ _ _ _ _).trans ?_
  show Finset.univ.fold max (Ideal.ofBits .f32 0xFF800000#32) (fun j => x (ix2 r j)) = _
  rw [ofBits_bot]
  rfl

/-- Every row has one largest logit, below +∞. -/
theorem peaked (x : FVec Ideal S1000000x100 .f32) (l : IVec S1000000 32) (h : fn (F := Ideal) x l = fun _ => 1#1) (r : Fin 1000000) :
    ∃ p, Row.Peaked (fun j => x (ix2 r j)) p := by
  have hj : ∀ j : Fin 100, x (ix2 r j) < ⊤ ∧ (x (ix2 r j) < Row.peak (fun j => x (ix2 r j)) ∨ BitVec.ofNat 32 j = fn_argmax x (ix1 r)) := by
    intro j
    have hi := congrFun h (ix2 r j)
    rw [fn_eq] at hi
    have hh := holds_at x top (perLane (rowMax x)) (iotaInDim S1000000x100 32 1) (perLane (fn_argmax x)) (ix2 r j) hi
    rw [top_apply, perLane_apply, perLane_apply, rowMax_apply] at hh
    exact ⟨hh.1, hh.2.imp id fun e => (ValueIdx.iotaInDim_apply _ _ _).symm.trans e⟩
  exact Row.peaked_of (fun j => (hj j).1) fun j => (hj j).2

end Cert.Pre_bounded_and_untied

end
-- ==== Proof.Bins.lean ====
/-
  The bins: for a confidence above 0 and at most 1, the kernel's indicator of bin `k` — the gate at its lower bound less
  the gate at its upper bound — is 1 when the confidence lies above the one and not above the other, and 0 otherwise.
-/
module

public import proofs.«01_k».proof.Proof.Step
public import Idealize.ShloMosaic.PureOps.Ideal
public import Idealize.ShloMosaic.PureOps.Ideal.Laws

@[expose] public section

noncomputable section

namespace Cert.Bins

open Cert.KernelIdeal Cert.KernelIdeal.Body
open Idealize.ShloMosaic

/-- The bit pattern of the bins' bound `k`, from 0 to 1. -/
def pattern (k : ℕ) : BitVec 32 := if k = 0 then 0x00000000#32 else if k = 20 then 0x3F800000#32 else bound k

/-- Bound `k` as a number. -/
def edge (k : ℕ) : EReal := Ideal.ofBits .f32 (pattern k)

/-- Whether a proposition holds, as 0 or 1. -/
def ind (p : Prop) [Decidable p] : EReal := if p then 1 else 0

/-- The kernel's reading of a comparison, widened and read signed. -/
theorem ind_signed (p : Prop) [Decidable p] :
    (((BitVec.setWidth 32 (BitVec.ofBool (decide p))).toInt : ℝ) : EReal) = ind p := by
  unfold ind
  by_cases h : p
  · rw [if_pos h, decide_eq_true h]; simp
  · rw [if_neg h, decide_eq_false h]; simp

/-- The reference's, read unsigned. -/
theorem ind_unsigned (p : Prop) [Decidable p] : (((BitVec.ofBool (decide p)).toNat : ℝ) : EReal) = ind p := by
  unfold ind
  by_cases h : p
  · rw [if_pos h, decide_eq_true h]; simp
  · rw [if_neg h, decide_eq_false h]; simp

theorem edge_zero : edge 0 = 0 := by
  simp [edge, pattern, Ideal.ofBits, Ideal.ieee]

theorem edge_last : edge 20 = 1 := by
  simp [edge, pattern, Ideal.ofBits, Ideal.ieee, -EReal.coe_mul]
  try norm_num

set_option maxHeartbeats 1600000 in
/-- The bounds do not decrease. -/
theorem edge_le (k : Fin 20) : edge k ≤ edge (k + 1) := by
  fin_cases k <;>
    · simp [edge, pattern, bound, Ideal.ofBits, Ideal.ieee, -EReal.coe_mul, -EReal.coe_le_coe_iff]
      try norm_cast
      try norm_num

/-- A gate is the comparison of the confidence with its bound. -/
theorem gate_eq {k : ℕ} (C : FVec Ideal S8x1000 .f32) (s : S8x1000.Idx) {c : ℝ} (hc : C s = (c : EReal)) (h0 : 0 < c) (h1 : c ≤ 1) :
    gate (F := Ideal) k C s = ind (edge k < C s) := by
  rw [hc]
  by_cases hk : k = 0
  · subst hk
    rw [edge_zero, ind, if_pos (EReal.coe_pos.2 h0)]
    show Ideal.ofBits .f32 0x3F800000#32 = 1
    exact edge_last
  by_cases hk' : k = 20
  · subst hk'
    rw [edge_last, ind, if_neg (not_lt.2 (by exact_mod_cast h1))]
    show Ideal.ofBits .f32 0x00000000#32 = 0
    exact edge_zero
  rw [gate.eq_3 k C hk hk', ← hc]
  show (((BitVec.setWidth 32 (Ideal.cmp .ogt (C s) (Ideal.ofBits .f32 (bound k)))).toInt : ℝ) : EReal) = _
  unfold edge pattern
  rw [if_neg hk, if_neg hk']
  exact ind_signed _

/-- The kernel's indicator of bin `k`. -/
theorem inBin_eq (k : Fin 20) (C : FVec Ideal S8x1000 .f32) (s : S8x1000.Idx) {c : ℝ} (hc : C s = (c : EReal)) (h0 : 0 < c) (h1 : c ≤ 1) :
    inBin (F := Ideal) k C s = ind (edge k < C s ∧ C s ≤ edge (k + 1)) := by
  show gate (F := Ideal) k C s - gate (F := Ideal) (k + 1) C s = _
  rw [gate_eq C s hc h0 h1, gate_eq C s hc h0 h1]
  unfold ind
  by_cases hl : edge k < C s
  · by_cases hu : edge (k + 1) < C s
    · rw [if_pos hl, if_pos hu, if_neg fun h => absurd h.2 (not_le.2 hu)]; exact (EReal.coe_sub 1 1).symm.trans (by simp)
    · rw [if_pos hl, if_neg hu, if_pos ⟨hl, not_lt.1 hu⟩, sub_zero]
  · rw [if_neg hl, if_neg fun h => hl ((edge_le k).trans_lt h), if_neg fun h => hl h.1, sub_zero]

end Cert.Bins

end
-- ==== Proof.KRows.lean ====
/-
  The kernel's block row by row, over the extended reals: the confidence of a row is the share of its largest logit, its hit
  whether the largest logit is the one in the label's lane.
-/
module

public import proofs.«01_k».proof.Proof.Step
public import proofs.«01_k».proof.Proof.Row
public import proofs.«01_k».proof.Proof.Bins
public import Idealize.ShloMosaic.Lib.ValueIdx
public import Idealize.ShloMosaic.Lib.Pointwise

@[expose] public section

noncomputable section

namespace Cert.KernelIdeal.Body

open Cert.KernelIdeal Cert.KernelIdeal.Gen
open Idealize.ShloMosaic
open Cert.Bins (ind)

/-- The row of a block at sheet `e`, place `g`. -/
def blockRow (e : Fin 8) (g : Fin 1000) : Fin 8000 := ⟨e.val * 1000 + g.val, by omega⟩

/-- That row's logits. -/
def brow (x : FVec Ideal S8000x100 .f32) (e : Fin 8) (g : Fin 1000) (j : Fin 100) : EReal := x (ix2 (blockRow e g) j)

theorem ofBits_bot : Ideal.ofBits .f32 0xFF800000#32 = ⊥ := by simp [Ideal.ofBits, Ideal.ieee]

/-- The block split into sheets. -/
theorem sheets_apply (x : FVec Ideal S8000x100 .f32) (e : Fin 8) (g : Fin 1000) (j : Fin 100) :
    k0_pay8 (F := Ideal) x (ix3 e g j) = brow x e g j := by
  refine shapeCast_apply x shapeCasts_S8000x100_S8x1000x100 (ix3 e g j) (ix2 (blockRow e g) j) ?_
  rw [Shape.rowMajor_val_two, Shape.rowMajor_val_three]
  show (e.val * 1000 + g.val) * 100 + j.val = _
  rfl

/-- The maximum over the lanes; -/
def laneMax (v : FVec Ideal S8x1000x100 .f32) : FVec Ideal S8x1000 .f32 :=
  multiReduction .maximumf [2] S8x1000 v 0xFF800000#32 reduces_S8x1000x100_S8x1000 (.inl rfl) rfl
/-- the sum over them. -/
def laneSum (v : FVec Ideal S8x1000x100 .f32) : FVec Ideal S8x1000 .f32 :=
  multiReduction .add [2] S8x1000 v 0x00000000#32 reduces_S8x1000x100_S8x1000 (.inl rfl) rfl

theorem laneMax_apply (v : FVec Ideal S8x1000x100 .f32) (e : Fin 8) (g : Fin 1000) :
    laneMax v (ix2 e g) = Row.peak fun j => v (ix3 e g j) := by
  refine (multiReduction_maximumf_eq_fold _ _ _ _ _ _).trans ((Shape.Reduces.fold_fiber_r3_a2 _ _ _ _ _).trans ?_)
  show Finset.univ.fold max (Ideal.ofBits .f32 0xFF800000#32) (fun j => v (ix3 e g j)) = _
  rw [ofBits_bot]
  rfl

theorem laneSum_apply (v : FVec Ideal S8x1000x100 .f32) (e : Fin 8) (g : Fin 1000) :
    laneSum v (ix2 e g) = ∑ j, v (ix3 e g j) :=
  Shape.Reduces.sum_fiber_r3_a2 reduces_S8x1000x100_S8x1000 (ix2 e g) v

theorem exp_at {s : Shape} (x : FVec Ideal s .f32) (i : s.Idx) : exp x i = Ideal.exp (x i) := rfl

/-- The largest logit of each row. -/
theorem top_apply (x : FVec Ideal S8000x100 .f32) (e : Fin 8) (g : Fin 1000) : k0_pay9 (F := Ideal) x (ix2 e g) = Row.peak (brow x e g) := by
  refine (laneMax_apply (k0_pay8 x) e g).trans ?_
  exact congrArg Row.peak (funext fun j => sheets_apply x e g j)

/-- The confidence of each row. -/
theorem conf_apply (x : FVec Ideal S8000x100 .f32) (e : Fin 8) (g : Fin 1000) : k0_pay10 (F := Ideal) x (ix2 e g) = Row.share (brow x e g) := by
  have h : k0_pay10 (F := Ideal) x = shapeCast S8x1000 (divf (exp (k0_pay9 x)) (laneSum (exp (k0_pay8 x)))) shapeCasts_S8x1000_S8x1000 := rfl
  unfold Row.share
  rw [h, shapeCast_self, ValueIdx.divf_apply, exp_at, top_apply, laneSum_apply]
  simp only [exp_at, sheets_apply]

/-- Whether two numbers are equal, widened and read signed. -/
theorem eq_at {s : Shape} (a b : FVec Ideal s .f32) (i : s.Idx) :
    (sitofp .f32 (extui 32 (cmpf .oeq a b) natLt_1_32) : FVec Ideal s .f32) i = ind (a i = b i) :=
  Bins.ind_signed _

/-- The lane the label names keeps its logit, every other holds −∞. -/
def chosen (x : FVec Ideal S8000x100 .f32) (l : IVec S1x8x1000 32) : FVec Ideal S8x1000x100 .f32 :=
  select (cmpi .eq (iota .tc S8x1000x100 32 [2] iota_S8x1000x100_d2_w32)
      (broadcastTo S8x1000x100 (shapeCast S8x1000x1 (shapeCast S8x1000 l shapeCasts_S1x8x1000_S8x1000) shapeCasts_S8x1000_S8x1000x1)
        broadcasts_S8x1000x1_S8x1000x100)) (k0_pay8 x) (broadcast S8x1000x100 (Scalar.ofBits .f32 0xFF800000#32))

theorem chosen_apply (x : FVec Ideal S8000x100 .f32) (l : IVec S1x8x1000 32) (e : Fin 8) (g : Fin 1000) (j : Fin 100) :
    chosen x l (ix3 e g j) = Row.only (l (ix3 0 e g)) (brow x e g) j := by
  have hl : broadcastTo S8x1000x100 (shapeCast S8x1000x1 (shapeCast S8x1000 l shapeCasts_S1x8x1000_S8x1000) shapeCasts_S8x1000_S8x1000x1)
        broadcasts_S8x1000x1_S8x1000x100 (ix3 e g j) = l (ix3 0 e g) := by
    rw [broadcastTo_apply _ _ (ix3 e g j) (ix3 e g 0) (by intro a; fin_cases a <;> rfl),
      shapeCast_apply _ _ (ix3 e g 0) (ix2 e g) (by rw [Shape.rowMajor_val_two, Shape.rowMajor_val_three]; show e.val * 1000 + g.val = (e.val * 1000 + g.val) * 1 + 0; omega),
      shapeCast_apply _ _ (ix2 e g) (ix3 0 e g) (by rw [Shape.rowMajor_val_two, Shape.rowMajor_val_three]; show (0 * 8 + e.val) * 1000 + g.val = e.val * 1000 + g.val; omega)]
  have hi : iota .tc S8x1000x100 32 [2] iota_S8x1000x100_d2_w32 (ix3 e g j) = BitVec.ofNat 32 j := by
    simp [iota]
  show Scalar.select (BitVec.ofBool (_ == _)) _ _ = _
  rw [hl, hi, sheets_apply]
  unfold Row.only Scalar.select
  by_cases h : BitVec.ofNat 32 j = l (ix3 0 e g)
  · rw [if_pos h, h]; simp
  · rw [if_neg h]
    have : (BitVec.ofNat 32 j == l (ix3 0 e g)) = false := by simpa using h
    rw [this]
    exact ofBits_bot

/-- The hit of each row. -/
theorem hit_apply (x : FVec Ideal S8000x100 .f32) (l : IVec S1x8x1000 32) (e : Fin 8) (g : Fin 1000) :
    k0_pay11 (F := Ideal) x l (ix2 e g) = ind (Row.peak (Row.only (l (ix3 0 e g)) (brow x e g)) = Row.peak (brow x e g)) := by
  have h : k0_pay11 (F := Ideal) x l = shapeCast S8x1000 (sitofp .f32 (extui 32 (cmpf .oeq (laneMax (chosen x l)) (k0_pay9 x)) natLt_1_32))
    shapeCasts_S8x1000_S8x1000 := rfl
  rw [h, shapeCast_self, eq_at, top_apply, laneMax_apply]
  simp only [chosen_apply]

end Cert.KernelIdeal.Body

end
-- ==== Proof.Blocks.lean ====
/-
  The first kernel's blocks at coordinates: a point's rows are eight thousand consecutive rows of the logits, its labels
  those rows' labels.
-/
module

public import proofs.«01_k».proof.Proof.Run
public import proofs.«01_k».proof.Proof.KRows
public import Idealize.ShloMosaic.Lib.Pipeline.ValueKit

@[expose] public section

noncomputable section

namespace Cert.KernelIdeal.Body

open Cert.KernelIdeal Cert.KernelIdeal.Gen
open Idealize.ShloMosaic
open Idealize.ShloMosaic.TcCoe

variable (m : (ℓ : Loc nD τ sig) → Buf (Elt Ideal) ℓ)

/-- The row of the arrays at point `t`, sheet `e`, place `g`. -/
def rowAt (t : Fin 125) (e : Fin 8) (g : Fin 1000) : Fin 1000000 := ⟨t.val * 8000 + (e.val * 1000 + g.val), by omega⟩

theorem index0 : ∀ t : Fin cfg0.N, win0_0.index t = ![t.val, 0] := (by decide +kernel : ∀ t : Fin grid0.N, _)
theorem index1 : ∀ t : Fin cfg0.N, win0_1.index t = ![t.val, 0, 0] := (by decide +kernel : ∀ t : Fin grid0.N, _)

/-- A point's row of logits; -/
theorem brow_apply (c : Dev nD) (t : Fin 125) (e : Fin 8) (g : Fin 1000) (j : Fin 100) :
    brow (xblk m c t) e g j = m ((c : Thread nD τ).loc main_arg0) (ix2 (rowAt t e g) j) := by
  have hi := index0 t
  have hv : V1 m c main_arg0 = m ((c : Thread nD τ).loc main_arg0) := V1_of m c main_arg0 (by decide)
  unfold brow xblk
  rw [hv]
  show m ((c : Thread nD τ).loc main_arg0) (((cfg0.win 0).blk t).view.emb (ix2 (blockRow e g) j)) = _
  refine congrArg (m ((c : Thread nD τ).loc main_arg0)) ?_
  blk_ext [hi, blockRow, rowAt]

/-- its label. -/
theorem label_apply (c : Dev nD) (t : Fin 125) (e : Fin 8) (g : Fin 1000) :
    lblk m c t (ix3 0 e g) = m ((c : Thread nD τ).loc main_arg1) (ix1 (rowAt t e g)) := by
  have hi := index1 t
  have hv : V1 m c main_v0 = shapeCast S125x8x1000 (m ((c : Thread nD τ).loc main_arg1)) shapeCasts_S1000000_S125x8x1000 := by
    rfl
  have he : ((cfg0.win 1).blk t).view.emb (ix3 0 e g) = ix3 t e g := by
    blk_ext [hi]
  unfold lblk
  rw [hv]
  show shapeCast S125x8x1000 (m ((c : Thread nD τ).loc main_arg1)) shapeCasts_S1000000_S125x8x1000 (((cfg0.win 1).blk t).view.emb (ix3 0 e g)) = _
  rw [he]
  refine shapeCast_apply _ shapeCasts_S1000000_S125x8x1000 (ix3 t e g) (ix1 (rowAt t e g)) ?_
  rw [Shape.rowMajor_val_one, Shape.rowMajor_val_three]
  show t.val * 8000 + (e.val * 1000 + g.val) = (t.val * 8 + e.val) * 1000 + g.val
  omega

end Cert.KernelIdeal.Body

end
-- ==== Proof.Score.lean ====
/-
  A bin's contribution to the calibration error as one function of three numbers: how many rows fall into the bin, the sum
  of their hits and the sum of their confidences.
-/
module

public import Idealize.ShloMosaic.PureOps.Ideal
public import Idealize.ShloMosaic.PureOps.Ideal.Laws

@[expose] public section

noncomputable section

namespace Cert.Bins

open Idealize.ShloMosaic

/-- The distance of the mean confidence from the mean hit. -/
def gap (n a c : EReal) : EReal :=
  Ideal.div c (max n (Ideal.ofBits .f32 0x3F800000#32)) - Ideal.div a (max n (Ideal.ofBits .f32 0x3F800000#32))

/-- A bin's contribution: the gap's absolute value times the bin's share of the million rows, and nothing for an empty bin. -/
def score (n a c : EReal) : EReal :=
  Scalar.select (Ideal.cmp .ogt n (Ideal.ofBits .f32 0x00000000#32))
    (max (gap n a c) (-gap n a c) * Ideal.div n (Ideal.ofBits .f32 0x49742400#32)) (Ideal.ofBits .f32 0x00000000#32)

end Cert.Bins

end
-- ==== Proof.Payloads.lean ====
/-
  The two kernels' last values over the extended reals: the first kernel's totals are three columns of sums over the
  tables' sheets, the second's value the sum of twenty bins' contributions.
-/
module

public import proofs.«01_k».proof.Proof.KRows
public import proofs.«01_k».proof.Proof.Score

@[expose] public section

noncomputable section

namespace Cert.KernelIdeal.Body

open Cert.KernelIdeal Cert.KernelIdeal.Gen
open Idealize.ShloMosaic
open Cert.Bins (score gap)

/-- A table's sheets summed, as a column. -/
def column (A : FVec Ideal S20x8x1000 .f32) : FVec Ideal S20x1 .f32 :=
  shapeCast S20x1 (multiReduction .add [1, 2] S20 A 0x00000000#32 reduces_S20x8x1000_S20 (.inl rfl) rfl) shapeCasts_S20_S20x1

theorem column_apply (A : FVec Ideal S20x8x1000 .f32) (k : Fin 20) :
    column A (ix2 k 0) = ∑ e : Fin 8, ∑ g : Fin 1000, A (ix3 k e g) := by
  refine (shapeCast_apply _ shapeCasts_S20_S20x1 (ix2 k 0) (ix1 k) ?_).trans ?_
  · rw [Shape.rowMajor_val_one, Shape.rowMajor_val_two]
    show k.val = k.val * 1 + 0
    omega
  · exact Ideal.reduceAdd_r3_a12 reduces_S20x8x1000_S20 A (ix1 k)

/-- Three columns side by side, read in one of them. -/
theorem beside_apply (X : Fin 3 → FVec Ideal S20x1 .f32) (k : Fin 20) (o : Fin 3) :
    concatenate S20x3 1 [⟨S20x1, X 0⟩, ⟨S20x1, X 1⟩, ⟨S20x1, X 2⟩] concatenates_S20x1_S20x1_S20x1_S20x3_d1 (ix2 k o) = X o (ix2 k 0) := by
  have hd : ∀ b : Fin 2, b ≠ 1 → ((ix2 k (0 : Fin 1) : S20x1.Idx) b).val = ((ix2 k o : S20x3.Idx) b).val := fun b hb => by
    fin_cases b
    · rfl
    · exact absurd rfl hb
  have hat := fun (n : ℕ) (hn : n < 3) (x : FVec Ideal S20x1 .f32) => concatenate_apply_piece (t := S20x3) 1
    [⟨S20x1, X 0⟩, ⟨S20x1, X 1⟩, ⟨S20x1, X 2⟩] concatenates_S20x1_S20x1_S20x1_S20x3_d1 (ix2 k o) n hn S20x1 x
  fin_cases o
  · exact hat 0 (by decide) (X 0) rfl rfl 0 rfl (ix2 k 0) hd rfl
  · exact hat 1 (by decide) (X 1) rfl rfl 1 rfl (ix2 k 0) hd rfl
  · exact hat 2 (by decide) (X 2) rfl rfl 2 rfl (ix2 k 0) hd rfl

/-- The totals: one column of sums for each table. -/
theorem totals_apply (T : Fin 3 → FVec Ideal S20x8x1000 .f32) (k : Fin 20) (o : Fin 3) :
    k0_pay4 (F := Ideal) (T 0) (T 1) (T 2) (ix2 k o) = ∑ e : Fin 8, ∑ g : Fin 1000, T o (ix3 k e g) :=
  (beside_apply (fun o => column (T o)) k o).trans (column_apply (T o) k)

/-- A bin's contribution from three columns. -/
def scores (N A C : FVec Ideal S20x1 .f32) : FVec Ideal S20x1 .f32 :=
  select (cmpf .ogt N (broadcast S20x1 (Scalar.ofBits .f32 0x00000000#32)))
    (mulf (absf (subf (divf C (maximumf N (broadcast S20x1 (Scalar.ofBits .f32 0x3F800000#32))))
      (divf A (maximumf N (broadcast S20x1 (Scalar.ofBits .f32 0x3F800000#32))))))
      (divf N (broadcast S20x1 (Scalar.ofBits .f32 0x49742400#32))))
    (broadcast S20x1 (Scalar.ofBits .f32 0x00000000#32))

theorem scores_apply (N A C : FVec Ideal S20x1 .f32) (i : S20x1.Idx) : scores N A C i = score (N i) (A i) (C i) := rfl

/-- A column of the totals. -/
def pick (S : FVec Ideal S20x3 .f32) (o : Fin 3) (h : S20x3.Slices ![0, o.val] S20x1) : FVec Ideal S20x1 .f32 :=
  extractStridedSlice S20x1 ![0, o.val] (shapeCast S20x3 S shapeCasts_S20x3_S20x3) h

theorem pick_apply (S : FVec Ideal S20x3 .f32) (o : Fin 3) (h) (k : Fin 20) : pick S o h (ix2 k 0) = S (ix2 k o) := by
  unfold pick
  rw [shapeCast_self]
  refine extractStridedSlice_apply _ _ _ _ _ fun a => ?_
  fin_cases a
  · exact (Nat.zero_add _).symm
  · rfl

/-- A column summed. -/
def summed (v : FVec Ideal S20x1 .f32) : FVec Ideal S1 .f32 :=
  multiReduction .add [0] S1 v 0x00000000#32 reduces_S20x1_S1 (.inl rfl) rfl

theorem summed_apply (v : FVec Ideal S20x1 .f32) : summed v (ix1 0) = ∑ k : Fin 20, v (ix2 k 0) :=
  Ideal.reduceAdd_r2_a0 reduces_S20x1_S1 v (ix1 0)

theorem pay1_eq (S : FVec Ideal S20x3 .f32) : k1_pay1 (F := Ideal) S = shapeCast S1x1
    (summed (scores (pick S 0 slices_S20x3_o0_0_S20x1) (pick S 1 slices_S20x3_o0_1_S20x1) (pick S 2 slices_S20x3_o0_2_S20x1)))
    shapeCasts_S1_S1x1 := rfl

/-- The second kernel's value is the contributions' sum. -/
theorem pay1_apply (S : FVec Ideal S20x3 .f32) (i : S1x1.Idx) :
    k1_pay1 (F := Ideal) S i = ∑ k : Fin 20, score (S (ix2 k 0)) (S (ix2 k 1)) (S (ix2 k 2)) := by
  rw [pay1_eq]
  refine (shapeCast_apply _ shapeCasts_S1_S1x1 i (ix1 0) ?_).trans ?_
  · rw [Shape.rowMajor_val_one, Shape.rowMajor_val_two]
    have h0 : (i 0).val < 1 := (i 0).isLt
    have h1 : (i 1).val < 1 := (i 1).isLt
    show 0 = (i 0).val * 1 + (i 1).val
    omega
  · rw [summed_apply]
    refine Finset.sum_congr rfl fun k _ => ?_
    rw [scores_apply, pick_apply, pick_apply, pick_apply]

end Cert.KernelIdeal.Body

end
-- ==== Proof.Tables.lean ====
/-
  The tables after the last point, over the extended reals: the sums over the points of what each adds, and so the totals
  as sums over the rows of the arrays.
-/
module

public import proofs.«01_k».proof.Proof.Blocks
public import proofs.«01_k».proof.Proof.Payloads

@[expose] public section

noncomputable section

namespace Cert.KernelIdeal.Body

open Cert.KernelIdeal Cert.KernelIdeal.Gen
open Idealize.ShloMosaic
open Idealize.ShloMosaic.TcCoe
open Cert.Bins (edge ind score)

variable (m : (ℓ : Loc nD τ sig) → Buf (Elt Ideal) ℓ)

theorem ofBits_zero : Ideal.ofBits .f32 0x00000000#32 = 0 := by simp [Ideal.ofBits, Ideal.ieee]

/-- A table whose points each add something holds the sum of what the points before added. -/
theorem tab_apply (step : Fin cfg0.N → FVec Ideal S20x8x1000 .f32 → FVec Ideal S20x8x1000 .f32) (d : Fin 125 → EReal)
    (y : S20x8x1000.Idx) (h : ∀ (t : Fin 125) A, step t A y = A y + d t) (n : ℕ) (hn : n ≤ 125) :
    tab step n y = ∑ t : Fin n, d ⟨t.val, by omega⟩ := by
  induction n with
  | zero =>
    rw [Fin.sum_univ_zero]
    exact ofBits_zero
  | succ n ih =>
    have hs := tab_succ step (⟨n, by omega⟩ : Fin 125)
    have hs' : tab step (n + 1) y = step (⟨n, by omega⟩ : Fin 125) (tab step n) y := congrFun hs y
    rw [hs', h, ih (by omega), Fin.sum_univ_castSucc]
    rfl

/-- The rows point by point, sheet by sheet and place by place are all the rows. -/
theorem sum_rows (f : Fin 1000000 → EReal) :
    ∑ e : Fin 8, ∑ g : Fin 1000, ∑ t : Fin 125, f (rowAt t e g) = ∑ r : Fin 1000000, f r := by
  have hin : ∀ q : Fin 8000 → EReal, ∑ e : Fin 8, ∑ g : Fin 1000, q (blockRow e g) = ∑ a, q a := fun q => by
    rw [← Fintype.sum_prod_type']
    refine Fintype.sum_equiv (finProdFinEquiv (m := 8) (n := 1000)) _ _ fun x => congrArg q (Fin.ext ?_)
    show x.1.val * 1000 + x.2.val = x.2.val + 1000 * x.1.val
    omega
  have hout : ∑ t : Fin 125, ∑ a : Fin 8000, f ⟨t.val * 8000 + a.val, by omega⟩ = ∑ r, f r := by
    rw [← Fintype.sum_prod_type']
    refine Fintype.sum_equiv (finProdFinEquiv (m := 125) (n := 8000)) _ _ fun x => congrArg f (Fin.ext ?_)
    show x.1.val * 8000 + x.2.val = x.2.val + 8000 * x.1.val
    omega
  exact (hin fun a => ∑ t : Fin 125, f ⟨t.val * 8000 + a.val, by omega⟩).trans (Finset.sum_comm.trans hout)

/-! ## What the rows add -/

/-- Row `r` of the logits; -/
def logits (c : Dev nD) (r : Fin 1000000) (j : Fin 100) : EReal := m ((c : Thread nD τ).loc main_arg0) (ix2 r j)
/-- its label; -/
def label (c : Dev nD) (r : Fin 1000000) : BitVec 32 := m ((c : Thread nD τ).loc main_arg1) (ix1 r)
/-- its hit: whether the largest logit is the one in the label's lane; -/
def good (c : Dev nD) (r : Fin 1000000) : EReal :=
  ind (Row.peak (Row.only (label m c r) (logits m c r)) = Row.peak (logits m c r))
/-- whether its confidence is in bin `k`. -/
def inside (c : Dev nD) (k : Fin 20) (r : Fin 1000000) : EReal :=
  ind (edge k < Row.share (logits m c r) ∧ Row.share (logits m c r) ≤ edge (k + 1))

theorem brow_eq (c : Dev nD) (t : Fin 125) (e : Fin 8) (g : Fin 1000) : brow (xblk m c t) e g = logits m c (rowAt t e g) :=
  funext fun j => brow_apply m c t e g j

/-- A point's confidences; -/
theorem confs_apply (c : Dev nD) (t : Fin 125) (e : Fin 8) (g : Fin 1000) :
    confs m c t (ix2 e g) = Row.share (logits m c (rowAt t e g)) := by
  unfold confs
  rw [conf_apply, brow_eq]
/-- its hits. -/
theorem hits_apply (c : Dev nD) (t : Fin 125) (e : Fin 8) (g : Fin 1000) : hits m c t (ix2 e g) = good m c (rowAt t e g) := by
  unfold hits good
  rw [hit_apply, brow_eq, label_apply]
  rfl

/-- The indicator of a bin at a point. -/
theorem inBin_confs (c : Dev nD) (hp : ∀ r, ∃ p, Row.Peaked (logits m c r) p) (k : Fin 20) (t : Fin 125) (e : Fin 8) (g : Fin 1000) :
    inBin (F := Ideal) k (confs m c t) (ix2 e g) = inside m c k (rowAt t e g) := by
  obtain ⟨p, hr⟩ := hp (rowAt t e g)
  obtain ⟨s, h0, h1, hs, -, -⟩ := hr.soft
  rw [Bins.inBin_eq k (confs m c t) (ix2 e g) ((confs_apply m c t e g).trans hs) h0 h1, confs_apply]
  rfl

theorem sheet_ix (k : Fin 20) (e : Fin 8) (g : Fin 1000) : sheet (ix3 k e g) = ix2 e g := by
  funext a
  fin_cases a <;> rfl

/-- A count grows by the indicator; -/
theorem cntStep_apply (C : FVec Ideal S8x1000 .f32) (A : FVec Ideal S20x8x1000 .f32) (k : Fin 20) (e : Fin 8) (g : Fin 1000) :
    cntStep C A (ix3 k e g) = A (ix3 k e g) + inBin (F := Ideal) k C (ix2 e g) := by
  unfold cntStep
  rw [sheet_ix, ValueIdx.addf_apply]
  rfl
/-- a weighted sum by the indicator times the weight. -/
theorem sumStep_apply (C W : FVec Ideal S8x1000 .f32) (A : FVec Ideal S20x8x1000 .f32) (k : Fin 20) (e : Fin 8) (g : Fin 1000) :
    sumStep C W A (ix3 k e g) = A (ix3 k e g) + inBin (F := Ideal) k C (ix2 e g) * W (ix2 e g) := by
  unfold sumStep
  rw [sheet_ix, ValueIdx.addf_apply, ValueIdx.mulf_apply]
  rfl

section
variable (c : Dev nD) (hp : ∀ r, ∃ p, Row.Peaked (logits m c r) p) (k : Fin 20) (e : Fin 8) (g : Fin 1000)
include hp

/-- The counts after the last point, -/
theorem cnts_apply : cnts m c 125 (ix3 k e g) = ∑ t : Fin 125, inside m c k (rowAt t e g) :=
  tab_apply (fun t A => cntStep (confs m c t) A) (fun t => inside m c k (rowAt t e g)) (ix3 k e g)
    (fun t A => by rw [cntStep_apply, inBin_confs m c hp]) 125 le_rfl
/-- the hits -/
theorem accs_apply : accs m c 125 (ix3 k e g) = ∑ t : Fin 125, inside m c k (rowAt t e g) * good m c (rowAt t e g) :=
  tab_apply (fun t A => sumStep (confs m c t) (hits m c t) A) (fun t => inside m c k (rowAt t e g) * good m c (rowAt t e g)) (ix3 k e g)
    (fun t A => by rw [sumStep_apply, inBin_confs m c hp, hits_apply]) 125 le_rfl
/-- and the confidences. -/
theorem cfss_apply : cfss m c 125 (ix3 k e g) = ∑ t : Fin 125, inside m c k (rowAt t e g) * Row.share (logits m c (rowAt t e g)) :=
  tab_apply (fun t A => sumStep (confs m c t) (confs m c t) A) (fun t => inside m c k (rowAt t e g) * Row.share (logits m c (rowAt t e g)))
    (ix3 k e g) (fun t A => by rw [sumStep_apply, inBin_confs m c hp, confs_apply]) 125 le_rfl

end

/-- The tables after the last point. -/
def tables (c : Dev nD) : Fin 3 → FVec Ideal S20x8x1000 .f32 := ![cnts m c 125, accs m c 125, cfss m c 125]

theorem total_apply (c : Dev nD) (k : Fin 20) (o : Fin 3) (d : Fin 1000000 → EReal)
    (h : ∀ e g, tables m c o (ix3 k e g) = ∑ t : Fin 125, d (rowAt t e g)) : totals m c (ix2 k o) = ∑ r, d r := by
  refine (totals_apply (tables m c) k o).trans ?_
  simp only [h]
  exact sum_rows d

/-- The totals as sums over the rows: the counts, -/
theorem total_cnt (c : Dev nD) (hp : ∀ r, ∃ p, Row.Peaked (logits m c r) p) (k : Fin 20) :
    totals m c (ix2 k 0) = ∑ r, inside m c k r := total_apply m c k 0 _ fun e g => cnts_apply m c hp k e g
/-- the hits -/
theorem total_acc (c : Dev nD) (hp : ∀ r, ∃ p, Row.Peaked (logits m c r) p) (k : Fin 20) :
    totals m c (ix2 k 1) = ∑ r, inside m c k r * good m c r := total_apply m c k 1 _ fun e g => accs_apply m c hp k e g
/-- and the confidences. -/
theorem total_cfs (c : Dev nD) (hp : ∀ r, ∃ p, Row.Peaked (logits m c r) p) (k : Fin 20) :
    totals m c (ix2 k 2) = ∑ r, inside m c k r * Row.share (logits m c r) := total_apply m c k 2 _ fun e g => cfss_apply m c hp k e g

end Cert.KernelIdeal.Body

end
-- ==== Proof.Value.lean ====
/-
  The kernel's result from its blocks: the first array is the totals, the second the second kernel's value of them, and the
  result that value.
-/
module

public import proofs.«01_k».proof.Proof.Blocks
public import proofs.«01_k».proof.Proof.Payloads

@[expose] public section

noncomputable section

namespace Cert.KernelIdeal.Body

open Cert.KernelIdeal Cert.KernelIdeal.Gen
open Idealize.ShloMosaic
open Idealize.ShloMosaic.TcCoe
open Cert.Bins (score)

variable (m : (ℓ : Loc nD τ sig) → Buf (Elt Ideal) ℓ)

theorem index2 : ∀ t : Fin cfg0.N, win0_2.index t = ![0, 0] := (by decide +kernel : ∀ t : Fin grid0.N, _)
theorem sindex0 : ∀ t : Fin cfg1.N, win1_0.index t = ![0, 0] := (by decide +kernel : ∀ t : Fin grid1.N, _)
theorem sindex1 : ∀ t : Fin cfg1.N, win1_1.index t = ![0, 0] := (by decide +kernel : ∀ t : Fin grid1.N, _)

/-- The first kernel's array. -/
theorem res1_eq (c : Dev nD) : res1 m c = totals m c := by
  refine (dat0 m c).arrAt_eq_of_covers 2 _ (by decide +kernel) fun t hf y => ?_
  have hi := index2 t
  blk_simp
  show totals m c _ = totals m c _
  refine congrArg (totals m c) ?_
  blk_ext [hi]

/-- The second kernel's operand. -/
theorem sblk_eq (c : Dev nD) (t : Fin cfg1.N) : sblk m c t = totals m c := by
  have hi := sindex0 t
  unfold sblk
  rw [W2_v1, res1_eq]
  funext y
  show totals m c (((cfg1.win 0).blk t).view.emb y) = _
  refine congrArg (totals m c) ?_
  blk_ext [hi]

/-- The second kernel's array. -/
theorem res2_eq (c : Dev nD) : res2 m c = k1_pay1 (totals m c) := by
  refine (dat1 m c).arrAt_eq_of_covers 1 _ (by decide +kernel) fun t hf y => ?_
  have hi := sindex1 t
  blk_simp
  show k1_pay1 (sblk m c t) _ = k1_pay1 (totals m c) _
  rw [sblk_eq]
  refine congrArg (k1_pay1 (totals m c)) ?_
  blk_ext [hi]

/-- The result. -/
theorem value_apply (c : Dev nD) (i : S1.Idx) : value m c i
    = ∑ k : Fin 20, score (totals m c (ix2 k 0)) (totals m c (ix2 k 1)) (totals m c (ix2 k 2)) := by
  have h : value m c = shapeCast S1 (V3 m (outs m) c main_v2) shapeCasts_S1x1_S1 := rfl
  rw [h, V3_eq, W3_v2, res2_eq]
  exact pay1_apply (totals m c) _

end Cert.KernelIdeal.Body

end
-- ==== Proof.RefRows.lean ====
/-
  The reference's arrays row by row, over the extended reals: its softmax is each row's, its confidence each row's largest
  probability, and where one probability is the largest its prediction is that probability's lane.
-/
module

public import proofs.«01_k».proof.Proof.Ref
public import proofs.«01_k».proof.Proof.Row
public import Idealize.ShloMosaic.Lib.ValueIdx
public import Idealize.ShloMosaic.Lib.IdealHost
public import Idealize.ShloMosaic.Lib.Pointwise

@[expose] public section

noncomputable section

namespace Cert.ReferenceIdeal.Run

open Cert.ReferenceIdeal Cert.ReferenceIdeal.Gen
open Idealize.ShloMosaic

/-- Row `r` of an array. -/
def row (x : FVec Ideal S1000000x100 .f32) (r : Fin 1000000) (j : Fin 100) : EReal := x (ix2 r j)

theorem ofBits_bot : Ideal.ofBits .f32 0xFF800000#32 = ⊥ := by simp [Ideal.ofBits, Ideal.ieee]
theorem ofBits_zero : Ideal.ofBits .f32 0x00000000#32 = 0 := by simp [Ideal.ofBits, Ideal.ieee]

/-- The maximum over the lanes is each row's largest number. -/
theorem rowMax_apply (x : FVec Ideal S1000000x100 .f32) (r : Fin 1000000) :
    Host.reduce FloatOps.maximumf x (constant S_ .f32 0xFF800000#32) reducesTo_S1000000x100_S1000000_d1 h_S_ (ix1 r)
      = Row.peak (row x r) := by
  rw [Host.reduce_eq_fold]
  refine (Shape.ReducesTo.fold_fiber_r2_a1 _ _ _ _ _).trans ?_
  show Finset.univ.fold max (Ideal.ofBits .f32 0xFF800000#32) (row x r) = _
  rw [ofBits_bot]
  rfl

/-- The sum over the lanes is each row's. -/
theorem rowSum_apply (x : FVec Ideal S1000000x100 .f32) (r : Fin 1000000) :
    Host.reduceAdd x (constant S_ .f32 0x00000000#32) reducesTo_S1000000x100_S1000000_d1 h_S_ (ix1 r) = ∑ j, row x r j := by
  have hz : constant (F := Ideal) S_ .f32 0x00000000#32 (Shape.Idx.first h_S_) = 0 := ofBits_zero
  rw [ValueIdx.hostReduceAdd_apply, Ideal.hostReduceAdd_r2_a1, hz, zero_add]
  exact Finset.sum_congr rfl fun k _ => congrArg x (eq_ix2 _)

/-- A number per row, given to every lane. -/
theorem perLane_apply (v : FVec Ideal S1000000 .f32) (r : Fin 1000000) (j : Fin 100) :
    broadcastInDim S1000000x100 ![0, 1] bcast_S1000000x1_S1000000x100_0_1 (broadcastInDim S1000000x1 ![0] bcast_S1000000_S1000000x1_0 v) (ix2 r j)
      = v (ix1 r) := by
  unfold broadcastInDim
  exact congrArg v (eq_ix1 _)

theorem exp_at {s : Shape} (x : FVec Ideal s .f32) (i : s.Idx) : Host.exp x i = Ideal.exp (x i) := rfl
theorem divf_at {s : Shape} (x y : FVec Ideal s .f32) (i : s.Idx) : Host.divf x y i = Ideal.div (x i) (y i) := rfl

/-- A lowered logit. -/
theorem shifted_apply (x : FVec Ideal S1000000x100 .f32) (r : Fin 1000000) (j : Fin 100) :
    shifted x (ix2 r j) = row x r j - Row.peak (row x r) := by
  unfold shifted
  rw [ValueIdx.subf_apply, perLane_apply, ValueIdx.maximumf_apply, rowMax_apply, ValueIdx.broadcastInDim_scalar_apply, ValueIdx.constant_apply, ofBits_bot, max_eq_right bot_le]
  rfl

/-- The softmax of each row. -/
theorem row_soft (x : FVec Ideal S1000000x100 .f32) (r : Fin 1000000) : row (soft x) r = Row.soft (row x r) := by
  have hs : row (Host.exp (shifted x)) r = fun k => Ideal.exp (row x r k - Row.peak (row x r)) := by
    funext k
    unfold row
    rw [exp_at, shifted_apply]
    rfl
  funext j
  have h1 := congrFun hs j
  unfold row at h1
  unfold soft
  show Host.divf _ _ (ix2 r j) = _
  rw [divf_at, perLane_apply, rowSum_apply, hs, h1]
  rfl

/-- The confidence is the row's largest probability. -/
theorem conf_apply (P : FVec Ideal S1000000x100 .f32) (r : Fin 1000000) : conf P (ix1 r) = Row.peak (row P r) := rowMax_apply P r

/-! ## The prediction -/

/-- The running pair of the largest probability so far and its lane: a pair with the larger probability is kept. -/
theorem reducer_kept (q : EReal) (w : BitVec 32) (e : EReal × BitVec 32) (h : e = (q, w) ∨ e.1 < q) :
    reducer_argmax_f32_i32 (F := Ideal) (q, w) e = (q, w) := by
  rcases h with rfl | h
  · simp [reducer_argmax_f32_i32, Ideal.cmpf_def, Ideal.cmp, Scalar.select, IntOp.cmpi, IntOp.ori, IntOp.andi]
  · simp [reducer_argmax_f32_i32, Ideal.cmpf_def, Ideal.cmp, Scalar.select, IntOp.cmpi, IntOp.ori, IntOp.andi, h, h.ne']

/-- A pair with a smaller one gives way; -/
theorem reducer_taken (q : EReal) (w : BitVec 32) (s : EReal × BitVec 32) (h : s.1 < q) :
    reducer_argmax_f32_i32 (F := Ideal) s (q, w) = (q, w) := by
  simp [reducer_argmax_f32_i32, Ideal.cmpf_def, Ideal.cmp, Scalar.select, IntOp.cmpi, IntOp.ori, IntOp.andi, h.not_gt, h.ne]

/-- and of two below a number the one kept is below it. -/
theorem reducer_below (q : EReal) (s e : EReal × BitVec 32) (hs : s.1 < q) (he : e.1 < q) :
    (reducer_argmax_f32_i32 (F := Ideal) s e).1 < q := by
  by_cases h : e.1 < s.1
  · simpa [reducer_argmax_f32_i32, Ideal.cmpf_def, Ideal.cmp, Scalar.select, IntOp.ori, h] using hs
  · simpa [reducer_argmax_f32_i32, Ideal.cmpf_def, Ideal.cmp, Scalar.select, IntOp.ori, h] using he

/-- So the pair left after a list is the list's one pair of the largest probability. -/
theorem foldl_reducer (q : EReal) (w : BitVec 32) (l : List (EReal × BitVec 32)) (hl : ∀ e ∈ l, e = (q, w) ∨ e.1 < q)
    (s : EReal × BitVec 32) (hs : s = (q, w) ∨ (s.1 < q ∧ (q, w) ∈ l)) :
    l.foldl (reducer_argmax_f32_i32 (F := Ideal)) s = (q, w) := by
  induction l generalizing s with
  | nil => exact hs.resolve_right fun h => absurd h.2 (by simp)
  | cons e l ih =>
    have hl' : ∀ e ∈ l, e = (q, w) ∨ e.1 < q := fun d hd => hl d (List.mem_cons_of_mem _ hd)
    have he := hl e (List.mem_cons_self)
    rw [List.foldl_cons]
    refine ih hl' _ ?_
    rcases hs with rfl | ⟨hs, hm⟩
    · exact Or.inl (reducer_kept q w e he)
    · rcases he with rfl | he
      · exact Or.inl (reducer_taken q w s hs)
      · refine Or.inr ⟨reducer_below q s e hs he, (List.mem_cons.1 hm).resolve_left fun h => ?_⟩
        rw [← h] at he; exact lt_irrefl _ he

/-- The lane a maximum with lanes gives, for an array of any shape: the one of the result's pairs that the others lie below. -/
theorem argReduce_apply {s t u : Shape} {axes : List (Fin s.rank)} (P : FVec Ideal s .f32) (y : IVec s 32) (ix : FVec Ideal u .f32)
    (iy : IVec u 32) (h : s.ReducesTo axes t) (hu : 0 < u.numel) (j : t.Idx) (q : EReal) (w : BitVec 32)
    (hall : ∀ i, h.drop i = j → (P i, y i) = (q, w) ∨ P i < q) (i : s.Idx) (hi : h.drop i = j) (hq : P i = q) (hw : y i = w)
    (hx : ix (Shape.Idx.first hu) < q) :
    (Host.argReduce (reducer_argmax_f32_i32 (F := Ideal)) P y ix iy h hu j).2 = w := by
  rw [Ideal.argReduce_eq_reduce2, Host.reduce2_eq_foldl_fiber, foldl_reducer q w]
  · intro e he
    obtain ⟨n, hn, rfl⟩ := List.mem_map.1 he
    exact hall _ (of_decide_eq_true (List.mem_filter.1 hn).2)
  · refine Or.inr ⟨hx, List.mem_map.2 ⟨s.rowMajor i, List.mem_filter.2 ⟨List.mem_finRange _, decide_eq_true ?_⟩, ?_⟩⟩
    · rw [Equiv.symm_apply_apply]; exact hi
    · rw [Equiv.symm_apply_apply, hq, hw]

/-- The prediction is the lane that maximum gives. -/
theorem pred_eq (P : FVec Ideal S1000000x100 .f32) : pred P = fun j =>
    (Host.argReduce (reducer_argmax_f32_i32 (F := Ideal)) P (iotaInDim S1000000x100 32 1) (constant S_ .f32 0xFF800000#32)
      (constantI S_ 32 0#32) reducesTo_S1000000x100_S1000000_d1 h_S_ j).2 := rfl

/-- Where one probability is the row's largest, the prediction is its lane. -/
theorem pred_apply (P : FVec Ideal S1000000x100 .f32) (r : Fin 1000000) (p : Fin 100) (hb : ⊥ < row P r p)
    (h : ∀ j, j ≠ p → row P r j < row P r p) : pred P (ix1 r) = BitVec.ofNat 32 p := by
  have hy : ∀ k : Fin 100, iotaInDim S1000000x100 32 1 (ix2 r k) = BitVec.ofNat 32 k := fun k => ValueIdx.iotaInDim_apply _ _ _
  have hx : constant (F := Ideal) S_ .f32 0xFF800000#32 (Shape.Idx.first h_S_) < row P r p := lt_of_eq_of_lt ofBits_bot hb
  have hp : reducesTo_S1000000x100_S1000000_d1.drop (ix2 r p) = ix1 r :=
    (reducesTo_S1000000x100_S1000000_d1.fiber_r2_a1 (ix1 r) (ix2 r p)).2 ⟨p, rfl⟩
  have hall : ∀ i, reducesTo_S1000000x100_S1000000_d1.drop i = ix1 r →
      (P i, iotaInDim S1000000x100 32 1 i) = (row P r p, BitVec.ofNat 32 p) ∨ P i < row P r p := by
    intro i hi
    obtain ⟨k, hk⟩ := (reducesTo_S1000000x100_S1000000_d1.fiber_r2_a1 (ix1 r) i).1 hi
    have hk' : ix2 r k = i := hk
    rw [← hk', hy]
    by_cases hkp : k = p
    · left; rw [hkp]; rfl
    · right; exact h k hkp
  rw [pred_eq]
  exact argReduce_apply P (iotaInDim S1000000x100 32 1) (constant S_ .f32 0xFF800000#32) (constantI S_ 32 0#32)
    reducesTo_S1000000x100_S1000000_d1 h_S_ (ix1 r) (row P r p) (BitVec.ofNat 32 p) hall (ix2 r p) hp rfl (hy p) hx

end Cert.ReferenceIdeal.Run

end
-- ==== Proof.RefPeaked.lean ====
/-
  The reference on a row with one largest logit: its confidence is the share of that logit, its hit whether the logit's lane
  is the label.
-/
module

public import proofs.«01_k».proof.Proof.RefRows
public import proofs.«01_k».proof.Proof.Bins

@[expose] public section

noncomputable section

namespace Cert.ReferenceIdeal.Run

open Cert.ReferenceIdeal Cert.ReferenceIdeal.Gen
open Idealize.ShloMosaic
open Cert.Bins (ind)

/-- The confidence of such a row; -/
theorem conf_peaked (x : FVec Ideal S1000000x100 .f32) (r : Fin 1000000) (p : Fin 100) (h : Row.Peaked (row x r) p) :
    conf (soft x) (ix1 r) = Row.share (row x r) := by
  obtain ⟨c, -, -, hs, hp, hj⟩ := h.soft
  rw [conf_apply, row_soft, Row.peak_eq hj, hp, hs]

theorem uitofp_eq_at {s : Shape} (a b : IVec s 32) (i : s.Idx) :
    (uitofp .f32 (cmpi .eq a b) : FVec Ideal s .f32) i = ind (a i = b i) := by
  rw [← Bins.ind_unsigned]
  show (((BitVec.ofBool (a i == b i)).toNat : ℝ) : EReal) = _
  rfl

/-- its hit. -/
theorem hit_peaked (x : FVec Ideal S1000000x100 .f32) (l : IVec S1000000 32) (r : Fin 1000000) (p : Fin 100)
    (h : Row.Peaked (row x r) p) : hit (soft x) l (ix1 r) = ind (BitVec.ofNat 32 p = l (ix1 r)) := by
  obtain ⟨c, h0, -, -, hp, hj⟩ := h.soft
  have hb : ⊥ < row (soft x) r p := by rw [row_soft, hp]; exact EReal.bot_lt_coe c
  have hk : ∀ j, j ≠ p → row (soft x) r j < row (soft x) r p := by rw [row_soft]; exact hj
  unfold hit
  rw [uitofp_eq_at, pred_apply (soft x) r p hb hk]

end Cert.ReferenceIdeal.Run

end
-- ==== Proof.RefTotals.lean ====
/-
  The reference's result over the extended reals as sums over the rows: twenty bins' contributions, each from the rows'
  indicators, their hits and their confidences.
-/
module

public import proofs.«01_k».proof.Proof.RefRows
public import proofs.«01_k».proof.Proof.Bins
public import proofs.«01_k».proof.Proof.Score

@[expose] public section

noncomputable section

namespace Cert.ReferenceIdeal.Run

open Cert.ReferenceIdeal Cert.ReferenceIdeal.Gen
open Idealize.ShloMosaic
open Cert.Bins (edge ind score gap)

/-- A number per row, given to every bin; -/
theorem perRow_apply (v : FVec Ideal S1000000 .f32) (k : Fin 20) (r : Fin 1000000) : perRow v (ix2 k r) = v (ix1 r) := by
  unfold perRow broadcastInDim
  exact congrArg v (eq_ix1 _)
/-- a number per bin, given to every row. -/
theorem perBin_apply (v : FVec Ideal S20 .f32) (k : Fin 20) (r : Fin 1000000) : perBin v (ix2 k r) = v (ix1 k) := by
  unfold perBin broadcastInDim
  exact congrArg v (eq_ix1 _)

theorem lit0_eq : ∀ k : Fin 20, lit0 (S20.rowMajor (ix1 k)) = Bins.pattern k := by decide +kernel
theorem lit1_eq : ∀ k : Fin 20, lit1 (S20.rowMajor (ix1 k)) = Bins.pattern (k + 1) := by decide +kernel

/-- The lower bounds; -/
theorem lo_apply (k : Fin 20) : lo (F := Ideal) (ix1 k) = edge k := congrArg (Ideal.ofBits .f32) (lit0_eq k)
/-- the upper bounds. -/
theorem hi_apply (k : Fin 20) : hi (F := Ideal) (ix1 k) = edge (k + 1) := congrArg (Ideal.ofBits .f32) (lit1_eq k)

theorem uitofp_andi_at {s : Shape} (a b c d : FVec Ideal s .f32) (i : s.Idx) :
    (uitofp .f32 (andi (cmpf .ogt a b) (cmpf .ole c d)) : FVec Ideal s .f32) i = ind (b i < a i ∧ c i ≤ d i) := by
  rw [← Bins.ind_unsigned, Bool.decide_and]
  show (((BitVec.ofBool (decide (b i < a i)) &&& BitVec.ofBool (decide (c i ≤ d i))).toNat : ℝ) : EReal) = _
  rw [BitVec.ofBool_and_ofBool]

/-- The indicator of a row in a bin. -/
theorem inBin_apply (C : FVec Ideal S1000000 .f32) (k : Fin 20) (r : Fin 1000000) :
    inBin lo hi C (ix2 k r) = ind (edge k < C (ix1 r) ∧ C (ix1 r) ≤ edge (k + 1)) := by
  unfold inBin
  rw [uitofp_andi_at, perRow_apply, perBin_apply, perBin_apply, lo_apply, hi_apply]

/-- The sum over the rows. -/
theorem tot_apply (M : FVec Ideal S20x1000000 .f32) (k : Fin 20) : tot M (ix1 k) = ∑ r : Fin 1000000, M (ix2 k r) := by
  unfold tot
  rw [ValueIdx.hostReduceAdd_apply, Ideal.hostReduceAdd_r2_a1, ValueIdx.constant_apply, ofBits_zero, zero_add]
  exact Finset.sum_congr rfl fun r _ => congrArg M (eq_ix2 _)

/-- A bin's contribution. -/
theorem contribution_apply (N A C : FVec Ideal S20 .f32) (k : Fin 20) :
    contribution N A C (ix1 k) = score (N (ix1 k)) (A (ix1 k)) (C (ix1 k)) := by
  have he : ∀ w, every (F := Ideal) w (ix1 k) = Ideal.ofBits .f32 w := fun w => ValueIdx.broadcastInDim_scalar_apply _ _ _
  unfold score gap
  rw [← he, ← he, ← he]
  rfl

/-- The sum over the bins. -/
theorem total_apply (K : FVec Ideal S20 .f32) (i : S1.Idx) : total K i = ∑ k : Fin 20, K (ix1 k) := by
  unfold total
  rw [ValueIdx.broadcastInDim_scalar_apply, ValueIdx.hostReduceAdd_apply, Ideal.hostReduceAdd_r1_a0, ValueIdx.constant_apply, ofBits_zero, zero_add]

/-- The result. -/
theorem result_apply (C H : FVec Ideal S1000000 .f32) (i : S1.Idx) :
    result C H i = ∑ k : Fin 20, score (∑ r, ind (edge k < C (ix1 r) ∧ C (ix1 r) ≤ edge (k + 1)))
      (∑ r, H (ix1 r) * ind (edge k < C (ix1 r) ∧ C (ix1 r) ≤ edge (k + 1)))
      (∑ r, C (ix1 r) * ind (edge k < C (ix1 r) ∧ C (ix1 r) ≤ edge (k + 1))) := by
  unfold result
  rw [total_apply]
  refine Finset.sum_congr rfl fun k _ => ?_
  rw [contribution_apply, tot_apply, tot_apply, tot_apply]
  simp only [ValueIdx.mulf_apply, perRow_apply, inBin_apply]

end Cert.ReferenceIdeal.Run

end
-- ==== Proof.Equation.lean ====
/-
  The equation: where every row has one largest logit below +∞, the reference's result is the kernel's value.
-/
module

public import proofs.«01_k».proof.Proof.Tables
public import proofs.«01_k».proof.Proof.Value
public import proofs.«01_k».proof.Proof.RefPeaked
public import proofs.«01_k».proof.Proof.RefTotals

@[expose] public section

noncomputable section

namespace Cert.Equation

open Idealize.ShloMosaic
open Idealize.ShloMosaic.TcCoe
open Cert.KernelIdeal Cert.KernelIdeal.Body
open Cert.ReferenceIdeal.Run (conf hit soft result result_apply conf_peaked hit_peaked)
open Cert.Bins (edge ind score)

variable (m : (ℓ : Loc nD τ sig) → Buf (Elt Ideal) ℓ) (c : Dev nD)

/-- The reference's confidences of the kernel's logits; -/
def refConf : FVec Ideal Cert.ReferenceIdeal.S1000000 .f32 := conf (soft (m ((c : Thread nD τ).loc main_arg0)))
/-- its hits. -/
def refHit : FVec Ideal Cert.ReferenceIdeal.S1000000 .f32 :=
  hit (soft (m ((c : Thread nD τ).loc main_arg0))) (m ((c : Thread nD τ).loc main_arg1))

variable (hp : ∀ r, ∃ p, Row.Peaked (logits m c r) p)
include hp

theorem refConf_apply (r : Fin 1000000) : refConf m c (ix1 r) = Row.share (logits m c r) := by
  obtain ⟨p, h⟩ := hp r
  exact conf_peaked (m ((c : Thread nD τ).loc main_arg0)) r p h

theorem refHit_apply (r : Fin 1000000) : refHit m c (ix1 r) = good m c r := by
  obtain ⟨p, h⟩ := hp r
  refine (hit_peaked (m ((c : Thread nD τ).loc main_arg0)) (m ((c : Thread nD τ).loc main_arg1)) r p h).trans ?_
  unfold good ind
  exact if_congr (h.only (label m c r)).symm rfl rfl

/-- The two results are equal. -/
theorem result_eq : result (refConf m c) (refHit m c) = value m c := by
  funext i
  have hs : ∑ k : Fin 20, score (totals m c (ix2 k 0)) (totals m c (ix2 k 1)) (totals m c (ix2 k 2))
      = ∑ k : Fin 20, score (∑ r, ind (edge k < refConf m c (ix1 r) ∧ refConf m c (ix1 r) ≤ edge (k + 1)))
          (∑ r, refHit m c (ix1 r) * ind (edge k < refConf m c (ix1 r) ∧ refConf m c (ix1 r) ≤ edge (k + 1)))
          (∑ r, refConf m c (ix1 r) * ind (edge k < refConf m c (ix1 r) ∧ refConf m c (ix1 r) ≤ edge (k + 1))) := by
    refine Finset.sum_congr rfl fun k _ => ?_
    rw [total_cnt m c hp, total_acc m c hp, total_cfs m c hp]
    simp only [refConf_apply m c hp, refHit_apply m c hp, mul_comm (inside m c k _)]
    rfl
  exact (result_apply (refConf m c) (refHit m c) i).trans (hs.symm.trans (value_apply m c i).symm)

end Cert.Equation

end
-- ==== Proof.lean ====
/-
  The certificate: the two programs' runs, and the equation of their results, put together into the claims.
-/
module

public import proofs.«01_k».proof.Defs
public import proofs.«01_k».proof.Proof.Same
public import proofs.«01_k».proof.Proof.Run
public import proofs.«01_k».proof.Proof.Ref
public import proofs.«01_k».proof.Proof.Pre
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.Pre_bounded_and_untied
public import Idealize.ShloMosaic.Init

@[expose] public section

noncomputable section

namespace Cert.Proof

open Idealize.ShloMosaic Idealize.SL.Sem

/-- The idealized kernel's frame, for any float values. -/
theorem ideal_frame {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Body.run m g)

/-- The reference's frame. -/
theorem reference_frame
    (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨fun c => (h.1 c).2, h.2⟩) (Cert.ReferenceIdeal.Run.run m g)

theorem claim : Cert.Claim := by
  refine ⟨Cert.Kernel.Gen.facts, Cert.KernelIdeal.Gen.facts, Cert.ReferenceIdeal.Gen.facts, Cert.Pre_bounded_and_untied.Gen.facts,
    fun m g _ => Cert.Same.frame ideal_frame m g, fun m g _ => ideal_frame m g, fun m g _ => ideal_frame m g,
    fun m g _ => reference_frame m g, fun m g _ => reference_frame m g,
    trivial, ?_⟩
  intro m g m' g' hpre hm
  refine ⟨fun c => Cert.KernelIdeal.Body.value m c,
    (θ_run Cert.KernelIdeal.defs _ _).mono (fun _ h c => ⟨(h.1 c).1, (h.1 c).2⟩) (Cert.KernelIdeal.Body.run m g),
    (θ_run Cert.ReferenceIdeal.defs _ _).mono (fun r h c => ⟨(h.1 c).1.trans ?_, (h.1 c).2⟩) (Cert.ReferenceIdeal.Run.run m' g')⟩
  rw [(hm c).1, (hm c).2]
  exact Cert.Equation.result_eq m c fun r => Cert.Pre_bounded_and_untied.peaked _ _ (hpre c) r

end Cert.Proof

end
